-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_ones_lane [hPre_finite_ones_lane : Cert.Pre_finite_ones_lane.Facts] (m : (ℓ : Loc Cert.KernelIdeal.nD Cert.KernelIdeal.τ Cert.KernelIdeal.sig) → Buf (Elt Ideal) ℓ) : Prop :=
  ∀ c : Dev Cert.KernelIdeal.nD,
    (Cert.Pre_finite_ones_lane.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_ones_lane.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_ones_lane.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite_ones_lane.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite_ones_lane.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ones_lane [hPre_finite_ones_lane : Cert.Pre_finite_ones_lane.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ones_lane.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ones_lane.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ones_lane.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite_ones_lane.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite_ones_lane.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_ones_lane [hKernelIdeal : Cert.KernelIdeal.Facts] [hPre_finite_ones_lane : Cert.Pre_finite_ones_lane.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_ones_lane m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ones_lane [hReferenceIdeal : Cert.ReferenceIdeal.Facts] [hPre_finite_ones_lane : Cert.Pre_finite_ones_lane.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ones_lane m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def preserves_Kernel_KernelIdeal : Prop :=
  IdealRules.named_const.Statement Cert.KernelIdeal.κ "scale_log2e" .f32 0x3E16C740#32 (((Real.sqrt 96)⁻¹ * (Real.log 2)⁻¹ : ℝ) : EReal)

def algebraic_KernelIdeal_ReferenceIdeal_pre_finite_ones_lane [hKernelIdeal : Cert.KernelIdeal.Facts] [hReferenceIdeal : Cert.ReferenceIdeal.Facts] [hPre_finite_ones_lane : Cert.Pre_finite_ones_lane.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_ones_lane m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v46) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v144_4)) (v1 : (c : Dev Cert.Kernel3Ideal.nD) → Buf (Elt Ideal) ((c.tc : Thread Cert.Kernel3Ideal.nD Cert.Kernel3Ideal.τ).loc Cert.Kernel3Ideal.main_v144_5)) (v2 : (c : Dev Cert.Kernel3Ideal.nD) → Buf (Elt Ideal) ((c.tc : Thread Cert.Kernel3Ideal.nD Cert.Kernel3Ideal.τ).loc Cert.Kernel3Ideal.main_v144_6)) (v3 : (c : Dev Cert.Kernel3Ideal.nD) → Buf (Elt Ideal) ((c.tc : Thread Cert.Kernel3Ideal.nD Cert.Kernel3Ideal.τ).loc Cert.Kernel3Ideal.main_v144_7)) (v4 : (c : Dev Cert.Kernel3Ideal.nD) → Buf (Elt Ideal) ((c.tc : Thread Cert.Kernel3Ideal.nD Cert.Kernel3Ideal.τ).loc Cert.Kernel3Ideal.main_v144_8)) (v5 : (c : Dev Cert.Kernel3Ideal.nD) → Buf (Elt Ideal) ((c.tc : Thread Cert.Kernel3Ideal.nD Cert.Kernel3Ideal.τ).loc Cert.Kernel3Ideal.main_v144_3)) (v6 : (c : Dev Cert.Kernel3Ideal.nD) → Buf (Elt Ideal) ((c.tc : Thread Cert.Kernel3Ideal.nD Cert.Kernel3Ideal.τ).loc Cert.Kernel3Ideal.main_v144_11)) (v7 : (c : Dev Cert.Kernel3Ideal.nD) → Buf (Elt Ideal) ((c.tc : Thread Cert.Kernel3Ideal.nD Cert.Kernel3Ideal.τ).loc Cert.Kernel3Ideal.main_v144_2)) (v8 : (c : Dev Cert.Kernel3Ideal.nD) → Buf (Elt Ideal) ((c.tc : Thread Cert.Kernel3Ideal.nD Cert.Kernel3Ideal.τ).loc Cert.Kernel3Ideal.main_v144_1)) (v9 : (c : Dev Cert.Kernel3Ideal.nD) → Buf (Elt Ideal) ((c.tc : Thread Cert.Kernel3Ideal.nD Cert.Kernel3Ideal.τ).loc Cert.Kernel3Ideal.main_v144_10)) (v10 : (c : Dev Cert.Kernel3Ideal.nD) → Buf (Elt Ideal) ((c.tc : Thread Cert.Kernel3Ideal.nD Cert.Kernel3Ideal.τ).loc Cert.Kernel3Ideal.main_v144_9)) (v11 : (c : Dev Cert.Kernel3Ideal.nD) → Buf (Elt Ideal) ((c.tc : Thread Cert.Kernel3Ideal.nD Cert.Kernel3Ideal.τ).loc Cert.Kernel3Ideal.main_v144_0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v144_4) = v0 c
          ∧ r.2.mem ((c.tc : Thread Cert.Kernel3Ideal.nD Cert.Kernel3Ideal.τ).loc Cert.Kernel3Ideal.main_v144_5) = v1 c
          ∧ r.2.mem ((c.tc : Thread Cert.Kernel3Ideal.nD Cert.Kernel3Ideal.τ).loc Cert.Kernel3Ideal.main_v144_6) = v2 c
          ∧ r.2.mem ((c.tc : Thread Cert.Kernel3Ideal.nD Cert.Kernel3Ideal.τ).loc Cert.Kernel3Ideal.main_v144_7) = v3 c
          ∧ r.2.mem ((c.tc : Thread Cert.Kernel3Ideal.nD Cert.Kernel3Ideal.τ).loc Cert.Kernel3Ideal.main_v144_8) = v4 c
          ∧ r.2.mem ((c.tc : Thread Cert.Kernel3Ideal.nD Cert.Kernel3Ideal.τ).loc Cert.Kernel3Ideal.main_v144_3) = v5 c
          ∧ r.2.mem ((c.tc : Thread Cert.Kernel3Ideal.nD Cert.Kernel3Ideal.τ).loc Cert.Kernel3Ideal.main_v144_11) = v6 c
          ∧ r.2.mem ((c.tc : Thread Cert.Kernel3Ideal.nD Cert.Kernel3Ideal.τ).loc Cert.Kernel3Ideal.main_v144_2) = v7 c
          ∧ r.2.mem ((c.tc : Thread Cert.Kernel3Ideal.nD Cert.Kernel3Ideal.τ).loc Cert.Kernel3Ideal.main_v144_1) = v8 c
          ∧ r.2.mem ((c.tc : Thread Cert.Kernel3Ideal.nD Cert.Kernel3Ideal.τ).loc Cert.Kernel3Ideal.main_v144_10) = v9 c
          ∧ r.2.mem ((c.tc : Thread Cert.Kernel3Ideal.nD Cert.Kernel3Ideal.τ).loc Cert.Kernel3Ideal.main_v144_9) = v10 c
          ∧ r.2.mem ((c.tc : Thread Cert.Kernel3Ideal.nD Cert.Kernel3Ideal.τ).loc Cert.Kernel3Ideal.main_v144_0) = v11 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v28) = v0 c
          ∧ r.2.mem ((c.tc : Thread Cert.Reference3Ideal.nD Cert.Reference3Ideal.τ).loc Cert.Reference3Ideal.main_v29) = v1 c
          ∧ r.2.mem ((c.tc : Thread Cert.Reference3Ideal.nD Cert.Reference3Ideal.τ).loc Cert.Reference3Ideal.main_v30) = v2 c
          ∧ r.2.mem ((c.tc : Thread Cert.Reference3Ideal.nD Cert.Reference3Ideal.τ).loc Cert.Reference3Ideal.main_v31) = v3 c
          ∧ r.2.mem ((c.tc : Thread Cert.Reference3Ideal.nD Cert.Reference3Ideal.τ).loc Cert.Reference3Ideal.main_v257) = v4 c
          ∧ r.2.mem ((c.tc : Thread Cert.Reference3Ideal.nD Cert.Reference3Ideal.τ).loc Cert.Reference3Ideal.main_v41) = v5 c
          ∧ r.2.mem ((c.tc : Thread Cert.Reference3Ideal.nD Cert.Reference3Ideal.τ).loc Cert.Reference3Ideal.main_v66) = v6 c
          ∧ r.2.mem ((c.tc : Thread Cert.Reference3Ideal.nD Cert.Reference3Ideal.τ).loc Cert.Reference3Ideal.main_v121) = v7 c
          ∧ r.2.mem ((c.tc : Thread Cert.Reference3Ideal.nD Cert.Reference3Ideal.τ).loc Cert.Reference3Ideal.main_v148) = v8 c
          ∧ r.2.mem ((c.tc : Thread Cert.Reference3Ideal.nD Cert.Reference3Ideal.τ).loc Cert.Reference3Ideal.main_v206) = v9 c
          ∧ r.2.mem ((c.tc : Thread Cert.Reference3Ideal.nD Cert.Reference3Ideal.τ).loc Cert.Reference3Ideal.main_v254) = v10 c
          ∧ r.2.mem ((c.tc : Thread Cert.Reference3Ideal.nD Cert.Reference3Ideal.τ).loc Cert.Reference3Ideal.main_v256) = v11 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_ones_lane : Cert.Pre_finite_ones_lane.Facts),
    quiescent_Kernel (hKernel := hKernel)
    ∧ quiescent_KernelIdeal (hKernelIdeal := hKernelIdeal)
    ∧ quiescent_KernelIdeal_pre_finite_ones_lane (hKernelIdeal := hKernelIdeal) (hPre_finite_ones_lane := hPre_finite_ones_lane)
    ∧ quiescent_ReferenceIdeal (hReferenceIdeal := hReferenceIdeal)
    ∧ quiescent_ReferenceIdeal_pre_finite_ones_lane (hReferenceIdeal := hReferenceIdeal) (hPre_finite_ones_lane := hPre_finite_ones_lane)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_ones_lane (hKernelIdeal := hKernelIdeal) (hReferenceIdeal := hReferenceIdeal) (hPre_finite_ones_lane := hPre_finite_ones_lane)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_ones_lane.lean ====
abbrev S4x8192x512 : Shape := ⟨3, ![4, 8192, 512]⟩
abbrev S4x256x512 : Shape := ⟨3, ![4, 256, 512]⟩
abbrev S_ : Shape := ⟨0, ![]⟩
abbrev S4x256x4x128 : Shape := ⟨4, ![4, 256, 4, 128]⟩
abbrev S4x256x4x1 : Shape := ⟨4, ![4, 256, 4, 1]⟩
abbrev S4x256x4 : Shape := ⟨3, ![4, 256, 4]⟩
abbrev S4x8192x4x128 : Shape := ⟨4, ![4, 8192, 4, 128]⟩
abbrev S4x8192x4x1 : Shape := ⟨4, ![4, 8192, 4, 1]⟩
abbrev S4x8192x4 : Shape := ⟨3, ![4, 8192, 4]⟩

class Facts : Prop where
  bitsLt_bf16_f32 : FTy.bits .bf16 < FTy.bits .f32
  bcast_S_S4x8192x512 : S_.BroadcastsInDim S4x8192x512 (![] : Fin 0 → Fin S4x8192x512.rank)
  bcast_S_S4x256x512 : S_.BroadcastsInDim S4x256x512 (![] : Fin 0 → Fin S4x256x512.rank)
  shapeCasts_S4x256x512_S4x256x4x128 : S4x256x512.ShapeCasts S4x256x4x128
  slices_S4x256x4x128_S4x256x4x1_0_0_0_64 : S4x256x4x128.Slices ![0, 0, 0, 64] S4x256x4x1
  shapeCasts_S4x256x4x1_S4x256x4 : S4x256x4x1.ShapeCasts S4x256x4
  bcast_S_S4x256x4 : S_.BroadcastsInDim S4x256x4 (![] : Fin 0 → Fin S4x256x4.rank)
  shapeCasts_S4x8192x512_S4x8192x4x128 : S4x8192x512.ShapeCasts S4x8192x4x128
  slices_S4x8192x4x128_S4x8192x4x1_0_0_0_64 : S4x8192x4x128.Slices ![0, 0, 0, 64] S4x8192x4x1
  shapeCasts_S4x8192x4x1_S4x8192x4 : S4x8192x4x1.ShapeCasts S4x8192x4
  bcast_S_S4x8192x4 : S_.BroadcastsInDim S4x8192x4 (![] : Fin 0 → Fin S4x8192x4.rank)

variable [Facts]

def fn_part1 {F : FTy → Type} [FloatOps F] (main_v3 : IVec S4x8192x512 1) (main_v7 : IVec S4x256x512 1) (main_v11 : IVec S4x8192x512 1) (main_v17 : IVec S4x256x4 1) (main_v19 : FVec F S4x8192x4x1 .bf16) : IVec S4x8192x512 1 × IVec S4x256x512 1 × IVec S4x8192x512 1 × IVec S4x256x4 1 × IVec S4x8192x4 1 :=
  let main_v20 : FVec F S4x8192x4 .bf16 := shapeCast S4x8192x4 main_v19 shapeCasts_S4x8192x4x1_S4x8192x4
  let main_v21 : FVec F S4x8192x4 .f32 := (extf .f32 · bitsLt_bf16_f32) main_v20
  let main_cst_3 : FVec F S_ .f32 := constant S_ .f32 0x3F800000#32
  let main_v22 : FVec F S4x8192x4 .f32 := broadcastInDim S4x8192x4 ![] bcast_S_S4x8192x4 main_cst_3
  let main_v23 : IVec S4x8192x4 1 := cmpf .oeq main_v21 main_v22
  (main_v3, main_v7, main_v11, main_v17, main_v23)

def fn {F : FTy → Type} [FloatOps F] (main_arg0 : FVec F S4x8192x512 .bf16) (main_arg1 : FVec F S4x256x512 .bf16) (main_arg2 : FVec F S4x256x512 .bf16) (main_arg3 : FVec F S4x8192x512 .bf16) (main_arg4 : FVec F S4x8192x512 .bf16) : IVec S4x8192x512 1 × IVec S4x256x512 1 × IVec S4x8192x512 1 × IVec S4x256x4 1 × IVec S4x8192x4 1 :=
  let main_v0 : FVec F S4x8192x512 .f32 := (extf .f32 · bitsLt_bf16_f32) main_arg0
  let main_v1 : FVec F S4x8192x512 .f32 := Host.absf main_v0
  let main_cst : FVec F S_ .f32 := constant S_ .f32 0x7F800000#32
  let main_v2 : FVec F S4x8192x512 .f32 := broadcastInDim S4x8192x512 ![] bcast_S_S4x8192x512 main_cst
  let main_v3 : IVec S4x8192x512 1 := cmpf .olt main_v1 main_v2
  let main_v4 : FVec F S4x256x512 .f32 := (extf .f32 · bitsLt_bf16_f32) main_arg1
  let main_v5 : FVec F S4x256x512 .f32 := Host.absf main_v4
  let main_cst_0 : FVec F S_ .f32 := constant S_ .f32 0x7F800000#32
  let main_v6 : FVec F S4x256x512 .f32 := broadcastInDim S4x256x512 ![] bcast_S_S4x256x512 main_cst_0
  let main_v7 : IVec S4x256x512 1 := cmpf .olt main_v5 main_v6
  let main_v8 : FVec F S4x8192x512 .f32 := (extf .f32 · bitsLt_bf16_f32) main_arg3
  let main_v9 : FVec F S4x8192x512 .f32 := Host.absf main_v8
  let main_cst_1 : FVec F S_ .f32 := constant S_ .f32 0x7F800000#32
  let main_v10 : FVec F S4x8192x512 .f32 := broadcastInDim S4x8192x512 ![] bcast_S_S4x8192x512 main_cst_1
  let main_v11 : IVec S4x8192x512 1 := cmpf .olt main_v9 main_v10
  let main_v12 : FVec F S4x256x4x128 .bf16 := shapeCast S4x256x4x128 main_arg2 shapeCasts_S4x256x512_S4x256x4x128
  let main_v13 : FVec F S4x256x4x1 .bf16 := (extractStridedSlice S4x256x4x1 ![0, 0, 0, 64] · slices_S4x256x4x128_S4x256x4x1_0_0_0_64) main_v12
  let main_v14 : FVec F S4x256x4 .bf16 := shapeCast S4x256x4 main_v13 shapeCasts_S4x256x4x1_S4x256x4
  let main_v15 : FVec F S4x256x4 .f32 := (extf .f32 · bitsLt_bf16_f32) main_v14
  let main_cst_2 : FVec F S_ .f32 := constant S_ .f32 0x3F800000#32
  let main_v16 : FVec F S4x256x4 .f32 := broadcastInDim S4x256x4 ![] bcast_S_S4x256x4 main_cst_2
  let main_v17 : IVec S4x256x4 1 := cmpf .oeq main_v15 main_v16
  let main_v18 : FVec F S4x8192x4x128 .bf16 := shapeCast S4x8192x4x128 main_arg4 shapeCasts_S4x8192x512_S4x8192x4x128
  let main_v19 : FVec F S4x8192x4x1 .bf16 := (extractStridedSlice S4x8192x4x1 ![0, 0, 0, 64] · slices_S4x8192x4x128_S4x8192x4x1_0_0_0_64) main_v18
  fn_part1 (F := F) main_v3 main_v7 main_v11 main_v17 main_v19
-- ==== Kernel.lean ====
abbrev S4x8192x512 : Shape := ⟨3, ![4, 8192, 512]⟩
abbrev S4x256x512 : Shape := ⟨3, ![4, 256, 512]⟩
abbrev S1x1024x128 : Shape := ⟨3, ![1, 1024, 128]⟩
abbrev S1x256x128 : Shape := ⟨3, ![1, 256, 128]⟩
abbrev S1x8192x128 : Shape := ⟨3, ![1, 8192, 128]⟩
abbrev S1024x128 : Shape := ⟨2, ![1024, 128]⟩
abbrev S256x128 : Shape := ⟨2, ![256, 128]⟩
abbrev S1024x256 : Shape := ⟨2, ![1024, 256]⟩
abbrev S1x2048x128 : Shape := ⟨3, ![1, 2048, 128]⟩
abbrev S2048x128 : Shape := ⟨2, ![2048, 128]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 6
  | .vmem => 12
  | .smem => 0
  | _ => 0

abbrev bufTy : (tb : Table) → Fin (tcTables nBuf tb) → BufTy
  | .hbm, ⟨0, _⟩ => ⟨S4x8192x512, .bf16⟩
  | .hbm, ⟨1, _⟩ => ⟨S4x256x512, .bf16⟩
  | .hbm, ⟨2, _⟩ => ⟨S4x256x512, .bf16⟩
  | .hbm, ⟨3, _⟩ => ⟨S4x8192x512, .bf16⟩
  | .hbm, ⟨4, _⟩ => ⟨S4x8192x512, .bf16⟩
  | .hbm, ⟨5, _⟩ => ⟨S4x8192x512, .bf16⟩
  | .local _ .vmem, ⟨0, _⟩ => ⟨S1x1024x128, .bf16⟩
  | .local _ .vmem, ⟨1, _⟩ => ⟨S1x1024x128, .bf16⟩
  | .local _ .vmem, ⟨2, _⟩ => ⟨S1x256x128, .bf16⟩
  | .local _ .vmem, ⟨3, _⟩ => ⟨S1x256x128, .bf16⟩
  | .local _ .vmem, ⟨4, _⟩ => ⟨S1x256x128, .bf16⟩
  | .local _ .vmem, ⟨5, _⟩ => ⟨S1x256x128, .bf16⟩
  | .local _ .vmem, ⟨6, _⟩ => ⟨S1x8192x128, .bf16⟩
  | .local _ .vmem, ⟨7, _⟩ => ⟨S1x8192x128, .bf16⟩
  | .local _ .vmem, ⟨8, _⟩ => ⟨S1x8192x128, .bf16⟩
  | .local _ .vmem, ⟨9, _⟩ => ⟨S1x8192x128, .bf16⟩
  | .local _ .vmem, ⟨10, _⟩ => ⟨S1x1024x128, .bf16⟩
  | .local _ .vmem, ⟨11, _⟩ => ⟨S1x1024x128, .bf16⟩
  | _, _ => ⟨S4x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 8], ![false, false, false]⟩

def k0_mult1 : BitVec 32 :=
  let c1_i32 : BitVec 32 := 1#32
  let c2048_i32 : BitVec 32 := 2048#32
  let v34 : BitVec 32 := Scalar.muli c1_i32 c2048_i32
  v34
def k0_off1 (c1_i32 : BitVec 32) : Fin 3 → Nat :=
  let c0_21 : Index := 0#32
  let c2048_i32 : BitVec 32 := 2048#32
  let v34 : BitVec 32 := Scalar.muli c1_i32 c2048_i32
  let v35 : BitVec 32 := v34
  let v36 : Index := Scalar.indexCast v35
  let c0_22 : Index := 0#32
  ![0, v36.toNat, 0]
def k0_mult2 : BitVec 32 :=
  let c2_i32 : BitVec 32 := 2#32
  let c2048_i32_28 : BitVec 32 := 2048#32
  let v56 : BitVec 32 := Scalar.muli c2_i32 c2048_i32_28
  v56
def k0_mult3 : BitVec 32 :=
  let c3_i32 : BitVec 32 := 3#32
  let c2048_i32_36 : BitVec 32 := 2048#32
  let v78 : BitVec 32 := Scalar.muli c3_i32 c2048_i32_36
  v78
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "scale_log2e" => some (((Real.sqrt 96)⁻¹ * (Real.log 2)⁻¹ : ℝ) : EReal)
  | _ => none
-- ==== ReferenceIdeal.lean ====
abbrev S4x8192x512 : Shape := ⟨3, ![4, 8192, 512]⟩
abbrev S4x256x512 : Shape := ⟨3, ![4, 256, 512]⟩
abbrev S4x8192x4x128 : Shape := ⟨4, ![4, 8192, 4, 128]⟩
abbrev S4x256x4x128 : Shape := ⟨4, ![4, 256, 4, 128]⟩
abbrev S4x8448x4x128 : Shape := ⟨4, ![4, 8448, 4, 128]⟩
abbrev S4x4x8192x8448 : Shape := ⟨4, ![4, 4, 8192, 8448]⟩
abbrev S_ : Shape := ⟨0, ![]⟩
abbrev S4x4x8192 : Shape := ⟨3, ![4, 4, 8192]⟩
abbrev S4x4x8192x1 : Shape := ⟨4, ![4, 4, 8192, 1]⟩
abbrev S4x4x128x8192 : Shape := ⟨4, ![4, 4, 128, 8192]⟩

abbrev nBuf : Space → Nat
  | .hbm => 40
  | .vmem => 0
  | .smem => 0
  | _ => 0

abbrev bufTy : (tb : Table) → Fin (tcTables nBuf tb) → BufTy
  | .hbm, ⟨0, _⟩ => ⟨S4x8192x512, .bf16⟩
  | .hbm, ⟨1, _⟩ => ⟨S4x256x512, .bf16⟩
  | .hbm, ⟨2, _⟩ => ⟨S4x256x512, .bf16⟩
  | .hbm, ⟨3, _⟩ => ⟨S4x8192x512, .bf16⟩
  | .hbm, ⟨4, _⟩ => ⟨S4x8192x512, .bf16⟩
  | .hbm, ⟨5, _⟩ => ⟨S4x8192x512, .f32⟩
  | .hbm, ⟨6, _⟩ => ⟨S4x8192x4x128, .f32⟩
  | .hbm, ⟨7, _⟩ => ⟨S4x256x512, .f32⟩
  | .hbm, ⟨8, _⟩ => ⟨S4x256x4x128, .f32⟩
  | .hbm, ⟨9, _⟩ => ⟨S4x8192x512, .f32⟩
  | .hbm, ⟨10, _⟩ => ⟨S4x8192x4x128, .f32⟩
  | .hbm, ⟨11, _⟩ => ⟨S4x8448x4x128, .f32⟩
  | .hbm, ⟨12, _⟩ => ⟨S4x256x512, .f32⟩
  | .hbm, ⟨13, _⟩ => ⟨S4x256x4x128, .f32⟩
  | .hbm, ⟨14, _⟩ => ⟨S4x8192x512, .f32⟩
  | .hbm, ⟨15, _⟩ => ⟨S4x8192x4x128, .f32⟩
  | .hbm, ⟨16, _⟩ => ⟨S4x8448x4x128, .f32⟩
  | .hbm, ⟨17, _⟩ => ⟨S4x4x8192x8448, .f32⟩
  | .hbm, ⟨18, _⟩ => ⟨S_, .f32⟩
  | .hbm, ⟨19, _⟩ => ⟨S_, .f32⟩
  | .hbm, ⟨20, _⟩ => ⟨S4x4x8192x8448, .f32⟩
  | .hbm, ⟨21, _⟩ => ⟨S4x4x8192x8448, .f32⟩
  | .hbm, ⟨22, _⟩ => ⟨S_, .f32⟩
  | .hbm, ⟨23, _⟩ => ⟨S4x4x8192, .f32⟩
  | .hbm, ⟨24, _⟩ => ⟨S_, .f32⟩
  | .hbm, ⟨25, _⟩ => ⟨S4x4x8192, .f32⟩
  | .hbm, ⟨26, _⟩ => ⟨S4x4x8192, .f32⟩
  | .hbm, ⟨27, _⟩ => ⟨S4x4x8192x1, .f32⟩
  | .hbm, ⟨28, _⟩ => ⟨S4x4x8192x8448, .f32⟩
  | .hbm, ⟨29, _⟩ => ⟨S4x4x8192x8448, .f32⟩
  | .hbm, ⟨30, _⟩ => ⟨S4x4x8192x8448, .f32⟩
  | .hbm, ⟨31, _⟩ => ⟨S_, .f32⟩
  | .hbm, ⟨32, _⟩ => ⟨S4x4x8192, .f32⟩
  | .hbm, ⟨33, _⟩ => ⟨S4x4x8192x1, .f32⟩
  | .hbm, ⟨34, _⟩ => ⟨S4x4x8192x8448, .f32⟩
  | .hbm, ⟨35, _⟩ => ⟨S4x4x8192x8448, .f32⟩
  | .hbm, ⟨36, _⟩ => ⟨S4x4x128x8192, .f32⟩
  | .hbm, ⟨37, _⟩ => ⟨S4x8192x4x128, .f32⟩
  | .hbm, ⟨38, _⟩ => ⟨S4x8192x512, .f32⟩
  | .hbm, ⟨39, _⟩ => ⟨S4x8192x512, .bf16⟩
  | _, _ => ⟨S4x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== Kernel2.lean ====
abbrev S4x8192x1024 : Shape := ⟨3, ![4, 8192, 1024]⟩
abbrev S4x1x1024 : Shape := ⟨3, ![4, 1, 1024]⟩
abbrev S4x1024 : Shape := ⟨2, ![4, 1024]⟩
abbrev S4x1024x5632 : Shape := ⟨3, ![4, 1024, 5632]⟩
abbrev S4x2816x1024 : Shape := ⟨3, ![4, 2816, 1024]⟩
abbrev S1024 : Shape := ⟨1, ![1024]⟩
abbrev S1x1024 : Shape := ⟨2, ![1, 1024]⟩
abbrev S1x512x1024 : Shape := ⟨3, ![1, 512, 1024]⟩
abbrev S1x1x1024 : Shape := ⟨3, ![1, 1, 1024]⟩
abbrev S1x1024x5632 : Shape := ⟨3, ![1, 1024, 5632]⟩
abbrev S1x2816x1024 : Shape := ⟨3, ![1, 2816, 1024]⟩
abbrev S512x1024 : Shape := ⟨2, ![512, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 15
  | .vmem => 15
  | .smem => 0
  | _ => 0

abbrev bufTy : (tb : Table) → Fin (tcTables nBuf tb) → BufTy
  | .hbm, ⟨0, _⟩ => ⟨S4x8192x1024, .f32⟩
  | .hbm, ⟨1, _⟩ => ⟨S4x1x1024, .f32⟩
  | .hbm, ⟨2, _⟩ => ⟨S4x1x1024, .f32⟩
  | .hbm, ⟨3, _⟩ => ⟨S4x1x1024, .f32⟩
  | .hbm, ⟨4, _⟩ => ⟨S4x1024, .f32⟩
  | .hbm, ⟨5, _⟩ => ⟨S4x1024x5632, .f32⟩
  | .hbm, ⟨6, _⟩ => ⟨S4x2816x1024, .f32⟩
  | .hbm, ⟨7, _⟩ => ⟨S1024, .f32⟩
  | .hbm, ⟨8, _⟩ => ⟨S4x1024x5632, .bf16⟩
  | .hbm, ⟨9, _⟩ => ⟨S4x2816x1024, .bf16⟩
  | .hbm, ⟨10, _⟩ => ⟨S1x1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1x1024x5632, .bf16⟩
  | .local _ .vmem, ⟨10, _⟩ => ⟨S1x2816x1024, .bf16⟩
  | .local _ .vmem, ⟨11, _⟩ => ⟨S1x1024, .f32⟩
  | .local _ .vmem, ⟨12, _⟩ => ⟨S1x512x1024, .f32⟩
  | .local _ .vmem, ⟨13, _⟩ => ⟨S1x512x1024, .f32⟩
  | .local _ .vmem, ⟨14, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference2Ideal.lean ====
abbrev S4x8192x1024 : Shape := ⟨3, ![4, 8192, 1024]⟩
abbrev S4x1x1024 : Shape := ⟨3, ![4, 1, 1024]⟩
abbrev S4x1024 : Shape := ⟨2, ![4, 1024]⟩
abbrev S4x1024x5632 : Shape := ⟨3, ![4, 1024, 5632]⟩
abbrev S4x2816x1024 : Shape := ⟨3, ![4, 2816, 1024]⟩
abbrev S1024 : Shape := ⟨1, ![1024]⟩
abbrev S1x1024 : Shape := ⟨2, ![1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S4x8192x5632 : Shape := ⟨3, ![4, 8192, 5632]⟩
abbrev S4x8192x2816 : Shape := ⟨3, ![4, 8192, 2816]⟩

abbrev nBuf : Space → Nat
  | .hbm => 70
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x1x1024, .f32⟩
  | .hbm, ⟨2, _⟩ => ⟨S4x1x1024, .f32⟩
  | .hbm, ⟨3, _⟩ => ⟨S4x1x1024, .f32⟩
  | .hbm, ⟨4, _⟩ => ⟨S4x1024, .f32⟩
  | .hbm, ⟨5, _⟩ => ⟨S4x1024x5632, .f32⟩
  | .hbm, ⟨6, _⟩ => ⟨S4x2816x1024, .f32⟩
  | .hbm, ⟨7, _⟩ => ⟨S1024, .f32⟩
  | .hbm, ⟨8, _⟩ => ⟨S1x1024, .f32⟩
  | .hbm, ⟨9, _⟩ => ⟨S1024, .f32⟩
  | .hbm, ⟨10, _⟩ => ⟨S4x8192x1024, .f32⟩
  | .hbm, ⟨11, _⟩ => ⟨S_, .f32⟩
  | .hbm, ⟨12, _⟩ => ⟨S4x8192, .f32⟩
  | .hbm, ⟨13, _⟩ => ⟨S4x8192x1, .f32⟩
  | .hbm, ⟨14, _⟩ => ⟨S_, .f32⟩
  | .hbm, ⟨15, _⟩ => ⟨S4x8192x1, .f32⟩
  | .hbm, ⟨16, _⟩ => ⟨S4x8192x1, .f32⟩
  | .hbm, ⟨17, _⟩ => ⟨S_, .f32⟩
  | .hbm, ⟨18, _⟩ => ⟨S4x8192x1, .f32⟩
  | .hbm, ⟨19, _⟩ => ⟨S4x8192x1, .f32⟩
  | .hbm, ⟨20, _⟩ => ⟨S4x8192x1, .f32⟩
  | .hbm, ⟨21, _⟩ => ⟨S4x8192x1024, .f32⟩
  | .hbm, ⟨22, _⟩ => ⟨S4x8192x1024, .f32⟩
  | .hbm, ⟨23, _⟩ => ⟨S1x1x1024, .f32⟩
  | .hbm, ⟨24, _⟩ => ⟨S4x8192x1024, .f32⟩
  | .hbm, ⟨25, _⟩ => ⟨S4x8192x1024, .f32⟩
  | .hbm, ⟨26, _⟩ => ⟨S_, .f32⟩
  | .hbm, ⟨27, _⟩ => ⟨S4x1x1024, .f32⟩
  | .hbm, ⟨28, _⟩ => ⟨S4x1x1024, .f32⟩
  | .hbm, ⟨29, _⟩ => ⟨S4x8192x1024, .f32⟩
  | .hbm, ⟨30, _⟩ => ⟨S4x8192x1024, .f32⟩
  | .hbm, ⟨31, _⟩ => ⟨S4x8192x1024, .f32⟩
  | .hbm, ⟨32, _⟩ => ⟨S4x8192x1024, .f32⟩
  | .hbm, ⟨33, _⟩ => ⟨S1x1024x5632, .f32⟩
  | .hbm, ⟨34, _⟩ => ⟨S1024x5632, .f32⟩
  | .hbm, ⟨35, _⟩ => ⟨S1x2816x1024, .f32⟩
  | .hbm, ⟨36, _⟩ => ⟨S2816x1024, .f32⟩
  | .hbm, ⟨37, _⟩ => ⟨S4x8192x5632, .f32⟩
  | .hbm, ⟨38, _⟩ => ⟨S4x8192x2816, .f32⟩
  | .hbm, ⟨39, _⟩ => ⟨S4x8192x2816, .f32⟩
  | .hbm, ⟨40, _⟩ => ⟨S4x8192x2816, .f32⟩
  | .hbm, ⟨41, _⟩ => ⟨S4x8192x2816, .f32⟩
  | .hbm, ⟨42, _⟩ => ⟨S_, .f32⟩
  | .hbm, ⟨43, _⟩ => ⟨S4x8192x2816, .f32⟩
  | .hbm, ⟨44, _⟩ => ⟨S4x8192x2816, .f32⟩
  | .hbm, ⟨45, _⟩ => ⟨S_, .f32⟩
  | .hbm, ⟨46, _⟩ => ⟨S4x8192x2816, .f32⟩
  | .hbm, ⟨47, _⟩ => ⟨S4x8192x2816, .f32⟩
  | .hbm, ⟨48, _⟩ => ⟨S4x8192x2816, .f32⟩
  | .hbm, ⟨49, _⟩ => ⟨S4x8192x2816, .f32⟩
  | .hbm, ⟨50, _⟩ => ⟨S4x8192x1024, .f32⟩
  | .hbm, ⟨51, _⟩ => ⟨S4x8192x1024, .f32⟩
  | .hbm, ⟨52, _⟩ => ⟨S4x8192x1024, .f32⟩
  | .hbm, ⟨53, _⟩ => ⟨S4x8192x1024, .f32⟩
  | .hbm, ⟨54, _⟩ => ⟨S4x8192x1024, .f32⟩
  | .hbm, ⟨55, _⟩ => ⟨S_, .f32⟩
  | .hbm, ⟨56, _⟩ => ⟨S4x8192, .f32⟩
  | .hbm, ⟨57, _⟩ => ⟨S4x8192x1, .f32⟩
  | .hbm, ⟨58, _⟩ => ⟨S_, .f32⟩
  | .hbm, ⟨59, _⟩ => ⟨S4x8192x1, .f32⟩
  | .hbm, ⟨60, _⟩ => ⟨S4x8192x1, .f32⟩
  | .hbm, ⟨61, _⟩ => ⟨S_, .f32⟩
  | .hbm, ⟨62, _⟩ => ⟨S4x8192x1, .f32⟩
  | .hbm, ⟨63, _⟩ => ⟨S4x8192x1, .f32⟩
  | .hbm, ⟨64, _⟩ => ⟨S4x8192x1, .f32⟩
  | .hbm, ⟨65, _⟩ => ⟨S4x8192x1024, .f32⟩
  | .hbm, ⟨66, _⟩ => ⟨S4x8192x1024, .f32⟩
  | .hbm, ⟨67, _⟩ => ⟨S1x1x1024, .f32⟩
  | .hbm, ⟨68, _⟩ => ⟨S4x8192x1024, .f32⟩
  | .hbm, ⟨69, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_3 : Ref sig .tc := ⟨.hbm, 55, rfl⟩
abbrev main_v35 : Ref sig .tc := ⟨.hbm, 56, rfl⟩
abbrev main_v36 : Ref sig .tc := ⟨.hbm, 57, rfl⟩
abbrev main_cst_4 : Ref sig .tc := ⟨.hbm, 58, rfl⟩
abbrev main_v37 : Ref sig .tc := ⟨.hbm, 59, rfl⟩
abbrev main_v38 : Ref sig .tc := ⟨.hbm, 60, rfl⟩
abbrev main_cst_5 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩

abbrev nD : Nat := 1
abbrev τ : Topo := Topo.v7x

variable {F : FTy → Type} [FloatOps F]
-- ==== Kernel3.lean ====
abbrev S4x8192x1024 : Shape := ⟨3, ![4, 8192, 1024]⟩
abbrev S4x1x1024 : Shape := ⟨3, ![4, 1, 1024]⟩
abbrev S4x1024 : Shape := ⟨2, ![4, 1024]⟩
abbrev S4x1024x2464 : Shape := ⟨3, ![4, 1024, 2464]⟩
abbrev S4x256 : Shape := ⟨2, ![4, 256]⟩
abbrev S4x256x384 : Shape := ⟨3, ![4, 256, 384]⟩
abbrev S4x128 : Shape := ⟨2, ![4, 128]⟩
abbrev S4x128x512 : Shape := ⟨3, ![4, 128, 512]⟩
abbrev S128 : Shape := ⟨1, ![128]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x1x16 : Shape := ⟨3, ![8192, 1, 16]⟩
abbrev S8192x2x16 : Shape := ⟨3, ![8192, 2, 16]⟩
abbrev S8192x2x1x16 : Shape := ⟨4, ![8192, 2, 1, 16]⟩
abbrev S8192x2x2x16 : Shape := ⟨4, ![8192, 2, 2, 16]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S1x8192x128 : Shape := ⟨3, ![1, 8192, 128]⟩
abbrev S3x8192x128 : Shape := ⟨3, ![3, 8192, 128]⟩
abbrev S8 : Shape := ⟨1, ![8]⟩
abbrev S1x8 : Shape := ⟨2, ![1, 8]⟩
abbrev S8192x8 : Shape := ⟨2, ![8192, 8]⟩
abbrev S8192x1x8 : Shape := ⟨3, ![8192, 1, 8]⟩
abbrev S8192x2x8 : Shape := ⟨3, ![8192, 2, 8]⟩
abbrev S8192x2x1x8 : Shape := ⟨4, ![8192, 2, 1, 8]⟩
abbrev S8192x2x2x8 : Shape := ⟨4, ![8192, 2, 2, 8]⟩
abbrev S8192x32 : Shape := ⟨2, ![8192, 32]⟩
abbrev S1x8192x1x32 : Shape := ⟨4, ![1, 8192, 1, 32]⟩
abbrev S4x1024x2560 : Shape := ⟨3, ![4, 1024, 2560]⟩
abbrev S4x256x4x96 : Shape := ⟨4, ![4, 256, 4, 96]⟩
abbrev S4x256x4x128 : Shape := ⟨4, ![4, 256, 4, 128]⟩
abbrev S4x256x512 : Shape := ⟨3, ![4, 256, 512]⟩
abbrev S4x128x4x128 : Shape := ⟨4, ![4, 128, 4, 128]⟩
abbrev S4x128x4x64 : Shape := ⟨4, ![4, 128, 4, 64]⟩
abbrev S4x128x256 : Shape := ⟨3, ![4, 128, 256]⟩
abbrev S4x128x1024 : Shape := ⟨3, ![4, 128, 1024]⟩
abbrev S1x1024 : Shape := ⟨2, ![1, 1024]⟩
abbrev S1024 : Shape := ⟨1, ![1024]⟩
abbrev S1x256 : Shape := ⟨2, ![1, 256]⟩
abbrev S256 : Shape := ⟨1, ![256]⟩
abbrev S1x128 : Shape := ⟨2, ![1, 128]⟩
abbrev S4x16x512x256 : Shape := ⟨4, ![4, 16, 512, 256]⟩
abbrev S4x8192x512 : Shape := ⟨3, ![4, 8192, 512]⟩
abbrev S4x8192x256 : Shape := ⟨3, ![4, 8192, 256]⟩
abbrev S1x1024x1024 : Shape := ⟨3, ![1, 1024, 1024]⟩
abbrev S1x1x1024 : Shape := ⟨3, ![1, 1, 1024]⟩
abbrev S1x1024x2560 : Shape := ⟨3, ![1, 1024, 2560]⟩
abbrev S3x1024x128 : Shape := ⟨3, ![3, 1024, 128]⟩
abbrev S1x256x512 : Shape := ⟨3, ![1, 256, 512]⟩
abbrev S1x128x1024 : Shape := ⟨3, ![1, 128, 1024]⟩
abbrev S1x16x64x256 : Shape := ⟨4, ![1, 16, 64, 256]⟩
abbrev S1x1024x512 : Shape := ⟨3, ![1, 1024, 512]⟩
abbrev S1x1024x256 : Shape := ⟨3, ![1, 1024, 256]⟩
abbrev S2x1024x128 : Shape := ⟨3, ![2, 1024, 128]⟩
abbrev S1024x1024 : Shape := ⟨2, ![1024, 1024]⟩
abbrev S1024x1 : Shape := ⟨2, ![1024, 1]⟩
abbrev S1024x256 : Shape := ⟨2, ![1024, 256]⟩
abbrev S1024x128 : Shape := ⟨2, ![1024, 128]⟩
abbrev S1x1024x128 : Shape := ⟨3, ![1, 1024, 128]⟩
abbrev S1x64x128 : Shape := ⟨3, ![1, 64, 128]⟩
abbrev S64x128 : Shape := ⟨2, ![64, 128]⟩
abbrev S1x1x64x128 : Shape := ⟨4, ![1, 1, 64, 128]⟩
abbrev S256x512 : Shape := ⟨2, ![256, 512]⟩
abbrev S1024x512 : Shape := ⟨2, ![1024, 512]⟩
abbrev S128x1024 : Shape := ⟨2, ![128, 1024]⟩
abbrev S1024x384 : Shape := ⟨2, ![1024, 384]⟩

abbrev nBuf : Space → Nat
  | .hbm => 191
  | .vmem => 41
  | .smem => 0
  | _ => 0

abbrev hbmTy0_0 (i : Nat) : BufTy := match i % 128 with
  | 0 => ⟨S4x8192x1024, .f32⟩
  | 1 => ⟨S4x1x1024, .f32⟩
  | 2 => ⟨S4x1x1024, .f32⟩
  | 3 => ⟨S4x1024, .f32⟩
  | 4 => ⟨S4x1024x2464, .f32⟩
  | 5 => ⟨S4x256, .f32⟩
  | 6 => ⟨S4x256x384, .f32⟩
  | 7 => ⟨S4x128, .f32⟩
  | 8 => ⟨S4x128x512, .f32⟩
  | 9 => ⟨S128, .f32⟩
  | 10 => ⟨S128x64, .f32⟩
  | 11 => ⟨S8192, .f32⟩
  | 12 => ⟨S64, .f32⟩
  | 13 => ⟨S1x64, .f32⟩
  | 14 => ⟨S128x64, .f32⟩
  | 15 => ⟨S8192, .f32⟩
  | 16 => ⟨S16, .f32⟩
  | 17 => ⟨S16, .f32⟩
  | 18 => ⟨S_, .f32⟩
  | 19 => ⟨S16, .f32⟩
  | 20 => ⟨S16, .f32⟩
  | 21 => ⟨S_, .f32⟩
  | 22 => ⟨S16, .f32⟩
  | 23 => ⟨S16, .f32⟩
  | 24 => ⟨S8192x1, .f32⟩
  | 25 => ⟨S1x16, .f32⟩
  | 26 => ⟨S8192x16, .f32⟩
  | 27 => ⟨S8192x16, .f32⟩
  | 28 => ⟨S8192x16, .f32⟩
  | 29 => ⟨S8192x1, .f32⟩
  | 30 => ⟨S1x16, .f32⟩
  | 31 => ⟨S8192x16, .f32⟩
  | 32 => ⟨S8192x16, .f32⟩
  | 33 => ⟨S8192x16, .f32⟩
  | 34 => ⟨S8192x1x16, .f32⟩
  | 35 => ⟨S8192x1x16, .f32⟩
  | 36 => ⟨S8192x2x16, .f32⟩
  | 37 => ⟨S8192x2x16, .f32⟩
  | 38 => ⟨S8192x2x16, .f32⟩
  | 39 => ⟨S_, .f32⟩
  | 40 => ⟨S8192x2x16, .f32⟩
  | 41 => ⟨S8192x2x1x16, .f32⟩
  | 42 => ⟨S8192x2x1x16, .f32⟩
  | 43 => ⟨S8192x2x2x16, .f32⟩
  | 44 => ⟨S8192x64, .f32⟩
  | 45 => ⟨S8192x2x16, .f32⟩
  | 46 => ⟨S8192x2x1x16, .f32⟩
  | 47 => ⟨S8192x2x1x16, .f32⟩
  | 48 => ⟨S8192x2x2x16, .f32⟩
  | 49 => ⟨S8192x64, .f32⟩
  | 50 => ⟨S8192x2x1x16, .f32⟩
  | 51 => ⟨S8192x2x1x16, .f32⟩
  | 52 => ⟨S8192x2x2x16, .f32⟩
  | 53 => ⟨S8192x64, .f32⟩
  | 54 => ⟨S1x8192x1x64, .f32⟩
  | 55 => ⟨S1x8192x2x64, .f32⟩
  | 56 => ⟨S8192x128, .f32⟩
  | 57 => ⟨S1x8192x1x64, .f32⟩
  | 58 => ⟨S1x8192x2x64, .f32⟩
  | 59 => ⟨S8192x128, .f32⟩
  | 60 => ⟨S1x8192x1x64, .f32⟩
  | 61 => ⟨S1x8192x2x64, .f32⟩
  | 62 => ⟨S8192x128, .f32⟩
  | 63 => ⟨S_, .f32⟩
  | 64 => ⟨S_, .f32⟩
  | 65 => ⟨S8192x128, .f32⟩
  | 66 => ⟨S_, .f32⟩
  | 67 => ⟨S_, .f32⟩
  | 68 => ⟨S8192x128, .f32⟩
  | 69 => ⟨S_, .f32⟩
  | 70 => ⟨S_, .f32⟩
  | 71 => ⟨S8192x128, .f32⟩
  | 72 => ⟨S1x8192x128, .f32⟩
  | 73 => ⟨S1x8192x128, .f32⟩
  | 74 => ⟨S1x8192x128, .f32⟩
  | 75 => ⟨S3x8192x128, .f32⟩
  | 76 => ⟨S128, .f32⟩
  | 77 => ⟨S128x64, .f32⟩
  | 78 => ⟨S8192, .f32⟩
  | 79 => ⟨S64, .f32⟩
  | 80 => ⟨S1x64, .f32⟩
  | 81 => ⟨S128x64, .f32⟩
  | 82 => ⟨S8192, .f32⟩
  | 83 => ⟨S8, .f32⟩
  | 84 => ⟨S8, .f32⟩
  | 85 => ⟨S_, .f32⟩
  | 86 => ⟨S8, .f32⟩
  | 87 => ⟨S8, .f32⟩
  | 88 => ⟨S_, .f32⟩
  | 89 => ⟨S8, .f32⟩
  | 90 => ⟨S8, .f32⟩
  | 91 => ⟨S8192x1, .f32⟩
  | 92 => ⟨S1x8, .f32⟩
  | 93 => ⟨S8192x8, .f32⟩
  | 94 => ⟨S8192x8, .f32⟩
  | 95 => ⟨S8192x8, .f32⟩
  | 96 => ⟨S8192x1, .f32⟩
  | 97 => ⟨S1x8, .f32⟩
  | 98 => ⟨S8192x8, .f32⟩
  | 99 => ⟨S8192x8, .f32⟩
  | 100 => ⟨S8192x8, .f32⟩
  | 101 => ⟨S8192x1x8, .f32⟩
  | 102 => ⟨S8192x1x8, .f32⟩
  | 103 => ⟨S8192x2x8, .f32⟩
  | 104 => ⟨S8192x2x8, .f32⟩
  | 105 => ⟨S8192x2x8, .f32⟩
  | 106 => ⟨S_, .f32⟩
  | 107 => ⟨S8192x2x8, .f32⟩
  | 108 => ⟨S8192x2x1x8, .f32⟩
  | 109 => ⟨S8192x2x1x8, .f32⟩
  | 110 => ⟨S8192x2x2x8, .f32⟩
  | 111 => ⟨S8192x32, .f32⟩
  | 112 => ⟨S8192x2x8, .f32⟩
  | 113 => ⟨S8192x2x1x8, .f32⟩
  | 114 => ⟨S8192x2x1x8, .f32⟩
  | 115 => ⟨S8192x2x2x8, .f32⟩
  | 116 => ⟨S8192x32, .f32⟩
  | 117 => ⟨S8192x2x1x8, .f32⟩
  | 118 => ⟨S8192x2x1x8, .f32⟩
  | 119 => ⟨S8192x2x2x8, .f32⟩
  | 120 => ⟨S8192x32, .f32⟩
  | 121 => ⟨S1x8192x1x32, .f32⟩
  | 122 => ⟨S1x8192x1x32, .f32⟩
  | 123 => ⟨S8192x32, .f32⟩
  | 124 => ⟨S1x8192x1x32, .f32⟩
  | 125 => ⟨S1x8192x1x32, .f32⟩
  | 126 => ⟨S8192x32, .f32⟩
  | 127 => ⟨S1x8192x1x32, .f32⟩
  | _ => ⟨S4x8192x1024, .f32⟩

abbrev hbmTy0_1 (i : Nat) : BufTy := match i % 128 with
  | 0 => ⟨S1x8192x1x32, .f32⟩
  | 1 => ⟨S8192x32, .f32⟩
  | 2 => ⟨S_, .f32⟩
  | 3 => ⟨S_, .f32⟩
  | 4 => ⟨S8192x128, .f32⟩
  | 5 => ⟨S_, .f32⟩
  | 6 => ⟨S_, .f32⟩
  | 7 => ⟨S8192x128, .f32⟩
  | 8 => ⟨S_, .f32⟩
  | 9 => ⟨S_, .f32⟩
  | 10 => ⟨S8192x128, .f32⟩
  | 11 => ⟨S1x8192x128, .f32⟩
  | 12 => ⟨S1x8192x128, .f32⟩
  | 13 => ⟨S1x8192x128, .f32⟩
  | 14 => ⟨S3x8192x128, .f32⟩
  | 15 => ⟨S_, .i32⟩
  | 16 => ⟨S_, .f32⟩
  | 17 => ⟨S4x1024x2560, .f32⟩
  | 18 => ⟨S4x1024x2560, .bf16⟩
  | 19 => ⟨S4x256x4x96, .f32⟩
  | 20 => ⟨S_, .i32⟩
  | 21 => ⟨S_, .f32⟩
  | 22 => ⟨S4x256x4x128, .f32⟩
  | 23 => ⟨S4x256x512, .f32⟩
  | 24 => ⟨S4x256x512, .bf16⟩
  | 25 => ⟨S4x128x4x128, .f32⟩
  | 26 => ⟨S4x128x4x64, .f32⟩
  | 27 => ⟨S4x128x256, .f32⟩
  | 28 => ⟨S4x128x4x64, .f32⟩
  | 29 => ⟨S_, .i32⟩
  | 30 => ⟨S_, .f32⟩
  | 31 => ⟨S4x128x4x128, .f32⟩
  | 32 => ⟨S4x128x512, .f32⟩
  | 33 => ⟨S4x128x4x64, .f32⟩
  | 34 => ⟨S4x128x256, .f32⟩
  | 35 => ⟨S4x128x4x64, .f32⟩
  | 36 => ⟨S_, .i32⟩
  | 37 => ⟨S_, .f32⟩
  | 38 => ⟨S4x128x4x128, .f32⟩
  | 39 => ⟨S4x128x512, .f32⟩
  | 40 => ⟨S4x128x1024, .f32⟩
  | 41 => ⟨S4x128x1024, .bf16⟩
  | 42 => ⟨S1x1024, .f32⟩
  | 43 => ⟨S1024, .f32⟩
  | 44 => ⟨S1x1024, .f32⟩
  | 45 => ⟨S1x256, .f32⟩
  | 46 => ⟨S256, .f32⟩
  | 47 => ⟨S1x256, .f32⟩
  | 48 => ⟨S1x128, .f32⟩
  | 49 => ⟨S128, .f32⟩
  | 50 => ⟨S1x128, .f32⟩
  | 51 => ⟨S4x16x512x256, .f32⟩
  | 52 => ⟨S4x8192x512, .bf16⟩
  | 53 => ⟨S4x8192x256, .bf16⟩
  | 54 => ⟨S4x8192x256, .bf16⟩
  | 55 => ⟨S4x8192x256, .f32⟩
  | 56 => ⟨S4x8192x256, .f32⟩
  | 57 => ⟨S4x8192x256, .f32⟩
  | 58 => ⟨S4x8192x256, .f32⟩
  | 59 => ⟨S4x8192x256, .bf16⟩
  | 60 => ⟨S4x8192x512, .bf16⟩
  | 61 => ⟨S4x8192x512, .bf16⟩
  | 62 => ⟨S4x8192x512, .bf16⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1x1024x2560, .bf16⟩
  | .local _ .vmem, ⟨8, _⟩ => ⟨S3x1024x128, .f32⟩
  | .local _ .vmem, ⟨9, _⟩ => ⟨S3x1024x128, .f32⟩
  | .local _ .vmem, ⟨10, _⟩ => ⟨S3x1024x128, .f32⟩
  | .local _ .vmem, ⟨11, _⟩ => ⟨S3x1024x128, .f32⟩
  | .local _ .vmem, ⟨12, _⟩ => ⟨S1x256, .f32⟩
  | .local _ .vmem, ⟨13, _⟩ => ⟨S1x256x512, .bf16⟩
  | .local _ .vmem, ⟨14, _⟩ => ⟨S1x128, .f32⟩
  | .local _ .vmem, ⟨15, _⟩ => ⟨S1x128x1024, .bf16⟩
  | .local _ .vmem, ⟨16, _⟩ => ⟨S1x16x64x256, .f32⟩
  | .local _ .vmem, ⟨17, _⟩ => ⟨S1x16x64x256, .f32⟩
  | .local _ .vmem, ⟨18, _⟩ => ⟨S1x1024x512, .bf16⟩
  | .local _ .vmem, ⟨19, _⟩ => ⟨S1x1024x512, .bf16⟩
  | .local _ .vmem, ⟨20, _⟩ => ⟨S1x1024x256, .bf16⟩
  | .local _ .vmem, ⟨21, _⟩ => ⟨S1x1024x256, .bf16⟩
  | .local _ .vmem, ⟨22, _⟩ => ⟨S1x1024x256, .bf16⟩
  | .local _ .vmem, ⟨23, _⟩ => ⟨S1x1024x256, .bf16⟩
  | .local _ .vmem, ⟨24, _⟩ => ⟨S1x1024x256, .f32⟩
  | .local _ .vmem, ⟨25, _⟩ => ⟨S1x1024x256, .f32⟩
  | .local _ .vmem, ⟨26, _⟩ => ⟨S1x1024x256, .f32⟩
  | .local _ .vmem, ⟨27, _⟩ => ⟨S1x1024x256, .f32⟩
  | .local _ .vmem, ⟨28, _⟩ => ⟨S1x1024x256, .f32⟩
  | .local _ .vmem, ⟨29, _⟩ => ⟨S1x1024x256, .f32⟩
  | .local _ .vmem, ⟨30, _⟩ => ⟨S1x1024x256, .f32⟩
  | .local _ .vmem, ⟨31, _⟩ => ⟨S1x1024x256, .f32⟩
  | .local _ .vmem, ⟨32, _⟩ => ⟨S1x1024x256, .bf16⟩
  | .local _ .vmem, ⟨33, _⟩ => ⟨S1x1024x256, .bf16⟩
  | .local _ .vmem, ⟨34, _⟩ => ⟨S1x1024x512, .bf16⟩
  | .local _ .vmem, ⟨35, _⟩ => ⟨S1x1024x512, .bf16⟩
  | .local _ .vmem, ⟨36, _⟩ => ⟨S1x1024x512, .bf16⟩
  | .local _ .vmem, ⟨37, _⟩ => ⟨S1x1024x512, .bf16⟩
  | .local _ .vmem, ⟨38, _⟩ => ⟨S1x1024x512, .bf16⟩
  | .local _ .vmem, ⟨39, _⟩ => ⟨S1x1024x512, .bf16⟩
  | .local _ .vmem, ⟨40, _⟩ => ⟨S2x1024x128, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_1 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_2 : Ref sig .tc := ⟨.hbm, 63, rfl⟩
abbrev main_call0_v0 : Ref sig .tc := ⟨.hbm, 64, rfl⟩
abbrev main_v51 : Ref sig .tc := ⟨.hbm, 65, rfl⟩
abbrev main_cst_3 : Ref sig .tc := ⟨.hbm, 66, rfl⟩
abbrev main_call1_v0 : Ref sig .tc := ⟨.hbm, 67, rfl⟩
abbrev main_v52 : Ref sig .tc := ⟨.hbm, 68, rfl⟩
abbrev main_cst_4 : Ref sig .tc := ⟨.hbm, 69, rfl⟩
abbrev main_call2_v0 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_cst_5 : Ref sig .tc := ⟨.hbm, 85, rfl⟩
abbrev main_v67 : Ref sig .tc := ⟨.hbm, 86, rfl⟩
abbrev main_v68 : Ref sig .tc := ⟨.hbm, 87, rfl⟩
abbrev main_cst_6 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_cst_7 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_cst_8 : Ref sig .tc := ⟨.hbm, 130, rfl⟩
abbrev main_call3_v0 : Ref sig .tc := ⟨.hbm, 131, rfl⟩
abbrev main_v109 : Ref sig .tc := ⟨.hbm, 132, rfl⟩
abbrev main_cst_9 : Ref sig .tc := ⟨.hbm, 133, rfl⟩
abbrev main_call4_v0 : Ref sig .tc := ⟨.hbm, 134, rfl⟩
abbrev main_v110 : Ref sig .tc := ⟨.hbm, 135, rfl⟩
abbrev main_cst_10 : Ref sig .tc := ⟨.hbm, 136, rfl⟩
abbrev main_call5_v0 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_c : Ref sig .tc := ⟨.hbm, 143, rfl⟩
abbrev main_call6_v0 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_c_11 : Ref sig .tc := ⟨.hbm, 148, rfl⟩
abbrev main_call7_v0 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_c_12 : Ref sig .tc := ⟨.hbm, 157, rfl⟩
abbrev main_call8_v0 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_c_13 : Ref sig .tc := ⟨.hbm, 164, rfl⟩
abbrev main_call9_v0 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144_0 : Ref sig .tc := ⟨.hbm, 179, rfl⟩
abbrev main_v144_1 : Ref sig .tc := ⟨.hbm, 180, rfl⟩
abbrev main_v144_2 : Ref sig .tc := ⟨.hbm, 181, rfl⟩
abbrev main_v144_3 : Ref sig .tc := ⟨.hbm, 182, rfl⟩
abbrev main_v144_4 : Ref sig .tc := ⟨.hbm, 183, rfl⟩
abbrev main_v144_5 : Ref sig .tc := ⟨.hbm, 184, rfl⟩
abbrev main_v144_6 : Ref sig .tc := ⟨.hbm, 185, rfl⟩
abbrev main_v144_7 : Ref sig .tc := ⟨.hbm, 186, rfl⟩
abbrev main_v144_8 : Ref sig .tc := ⟨.hbm, 187, rfl⟩
abbrev main_v144_9 : Ref sig .tc := ⟨.hbm, 188, rfl⟩
abbrev main_v144_10 : Ref sig .tc := ⟨.hbm, 189, rfl⟩
abbrev main_v144_11 : Ref sig .tc := ⟨.hbm, 190, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_stg21_0 : Ref sig .tc := ⟨.vmem, 36, rfl⟩
abbrev cc0_stg21_1 : Ref sig .tc := ⟨.vmem, 37, rfl⟩
abbrev cc0_stg22_0 : Ref sig .tc := ⟨.vmem, 38, rfl⟩
abbrev cc0_stg22_1 : Ref sig .tc := ⟨.vmem, 39, rfl⟩
abbrev cc0_scratch0 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35
abbrev cc0_sem21_0 : DmaSem sig := 36
abbrev cc0_sem21_1 : DmaSem sig := 37
abbrev cc0_sem22_0 : DmaSem sig := 38
abbrev cc0_sem22_1 : DmaSem sig := 39

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S3x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S3x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x16x64x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1024x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1024x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1024x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1024x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1024x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x1024x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x1024x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x1024x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x1024x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x1024x512 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]
-- ==== Reference3Ideal.lean ====
abbrev S4x8192x1024 : Shape := ⟨3, ![4, 8192, 1024]⟩
abbrev S4x1x1024 : Shape := ⟨3, ![4, 1, 1024]⟩
abbrev S4x1024 : Shape := ⟨2, ![4, 1024]⟩
abbrev S4x1024x2464 : Shape := ⟨3, ![4, 1024, 2464]⟩
abbrev S4x256 : Shape := ⟨2, ![4, 256]⟩
abbrev S4x256x384 : Shape := ⟨3, ![4, 256, 384]⟩
abbrev S4x128 : Shape := ⟨2, ![4, 128]⟩
abbrev S4x128x512 : Shape := ⟨3, ![4, 128, 512]⟩
abbrev S1x1024 : Shape := ⟨2, ![1, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1x1024x2464 : Shape := ⟨3, ![1, 1024, 2464]⟩
abbrev S1024x2464 : Shape := ⟨2, ![1024, 2464]⟩
abbrev S4x8192x2464 : Shape := ⟨3, ![4, 8192, 2464]⟩
abbrev S4x8192x256 : Shape := ⟨3, ![4, 8192, 256]⟩
abbrev S4x8192x128 : Shape := ⟨3, ![4, 8192, 128]⟩
abbrev S4x8192x32 : Shape := ⟨3, ![4, 8192, 32]⟩
abbrev S4x8192x2x64 : Shape := ⟨4, ![4, 8192, 2, 64]⟩
abbrev S4x8192x2x1 : Shape := ⟨4, ![4, 8192, 2, 1]⟩
abbrev S4x8192x2x63 : Shape := ⟨4, ![4, 8192, 2, 63]⟩
abbrev S4x8192x2x128 : Shape := ⟨4, ![4, 8192, 2, 128]⟩
abbrev S1x128 : Shape := ⟨2, ![1, 128]⟩
abbrev S128 : Shape := ⟨1, ![128]⟩
abbrev S1x1x128 : Shape := ⟨3, ![1, 1, 128]⟩
abbrev S1x128x512 : Shape := ⟨3, ![1, 128, 512]⟩
abbrev S128x512 : Shape := ⟨2, ![128, 512]⟩
abbrev S4x8192x512 : Shape := ⟨3, ![4, 8192, 512]⟩
abbrev S4x8192x4x128 : Shape := ⟨4, ![4, 8192, 4, 128]⟩
abbrev S4x8192x4x64 : Shape := ⟨4, ![4, 8192, 4, 64]⟩
abbrev S4x8192x4x1 : Shape := ⟨4, ![4, 8192, 4, 1]⟩
abbrev S4x8192x4x63 : Shape := ⟨4, ![4, 8192, 4, 63]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S8192x1x16 : Shape := ⟨3, ![8192, 1, 16]⟩
abbrev S8192x2x16 : Shape := ⟨3, ![8192, 2, 16]⟩
abbrev S4x8192x2x2x2x16 : Shape := ⟨6, ![4, 8192, 2, 2, 2, 16]⟩
abbrev S4x8192x2x2x1x16 : Shape := ⟨6, ![4, 8192, 2, 2, 1, 16]⟩
abbrev S4x8192x2x2x16 : Shape := ⟨5, ![4, 8192, 2, 2, 16]⟩
abbrev S1x8192x1x2x16 : Shape := ⟨5, ![1, 8192, 1, 2, 16]⟩
abbrev S4x8192x4x2x2x16 : Shape := ⟨6, ![4, 8192, 4, 2, 2, 16]⟩
abbrev S4x8192x4x2x1x16 : Shape := ⟨6, ![4, 8192, 4, 2, 1, 16]⟩
abbrev S4x8192x4x2x16 : Shape := ⟨5, ![4, 8192, 4, 2, 16]⟩
abbrev S8 : Shape := ⟨1, ![8]⟩
abbrev S1x8 : Shape := ⟨2, ![1, 8]⟩
abbrev S8192x8 : Shape := ⟨2, ![8192, 8]⟩
abbrev S8192x1x8 : Shape := ⟨3, ![8192, 1, 8]⟩
abbrev S8192x2x8 : Shape := ⟨3, ![8192, 2, 8]⟩
abbrev S4x8192x1x32 : Shape := ⟨4, ![4, 8192, 1, 32]⟩
abbrev S4x8192x1x2x2x8 : Shape := ⟨6, ![4, 8192, 1, 2, 2, 8]⟩
abbrev S4x8192x1x2x1x8 : Shape := ⟨6, ![4, 8192, 1, 2, 1, 8]⟩
abbrev S4x8192x1x2x8 : Shape := ⟨5, ![4, 8192, 1, 2, 8]⟩
abbrev S1x8192x1x2x8 : Shape := ⟨5, ![1, 8192, 1, 2, 8]⟩
abbrev S4x8192x4x32 : Shape := ⟨4, ![4, 8192, 4, 32]⟩
abbrev S4x8192x4x96 : Shape := ⟨4, ![4, 8192, 4, 96]⟩
abbrev S4x8192x4x31 : Shape := ⟨4, ![4, 8192, 4, 31]⟩
abbrev S1x256 : Shape := ⟨2, ![1, 256]⟩
abbrev S256 : Shape := ⟨1, ![256]⟩
abbrev S1x1x256 : Shape := ⟨3, ![1, 1, 256]⟩
abbrev S1x256x384 : Shape := ⟨3, ![1, 256, 384]⟩
abbrev S256x384 : Shape := ⟨2, ![256, 384]⟩
abbrev S4x8192x384 : Shape := ⟨3, ![4, 8192, 384]⟩
abbrev S4x8192x4x2x2x8 : Shape := ⟨6, ![4, 8192, 4, 2, 2, 8]⟩
abbrev S4x8192x4x2x1x8 : Shape := ⟨6, ![4, 8192, 4, 2, 1, 8]⟩
abbrev S4x8192x4x2x8 : Shape := ⟨5, ![4, 8192, 4, 2, 8]⟩
abbrev S4x512x16x256 : Shape := ⟨4, ![4, 512, 16, 256]⟩
abbrev S4x16x512x256 : Shape := ⟨4, ![4, 16, 512, 256]⟩

abbrev nBuf : Space → Nat
  | .hbm => 293
  | .vmem => 0
  | .smem => 0
  | _ => 0

abbrev hbmTy0_0 (i : Nat) : BufTy := match i % 128 with
  | 0 => ⟨S4x8192x1024, .f32⟩
  | 1 => ⟨S4x1x1024, .f32⟩
  | 2 => ⟨S4x1x1024, .f32⟩
  | 3 => ⟨S4x1024, .f32⟩
  | 4 => ⟨S4x1024x2464, .f32⟩
  | 5 => ⟨S4x256, .f32⟩
  | 6 => ⟨S4x256x384, .f32⟩
  | 7 => ⟨S4x128, .f32⟩
  | 8 => ⟨S4x128x512, .f32⟩
  | 9 => ⟨S1x1024, .f32⟩
  | 10 => ⟨S1024, .f32⟩
  | 11 => ⟨S4x8192x1024, .f32⟩
  | 12 => ⟨S_, .f32⟩
  | 13 => ⟨S4x8192, .f32⟩
  | 14 => ⟨S4x8192x1, .f32⟩
  | 15 => ⟨S_, .f32⟩
  | 16 => ⟨S4x8192x1, .f32⟩
  | 17 => ⟨S4x8192x1, .f32⟩
  | 18 => ⟨S_, .f32⟩
  | 19 => ⟨S4x8192x1, .f32⟩
  | 20 => ⟨S4x8192x1, .f32⟩
  | 21 => ⟨S4x8192x1, .f32⟩
  | 22 => ⟨S4x8192x1024, .f32⟩
  | 23 => ⟨S4x8192x1024, .f32⟩
  | 24 => ⟨S1x1x1024, .f32⟩
  | 25 => ⟨S4x8192x1024, .f32⟩
  | 26 => ⟨S4x8192x1024, .f32⟩
  | 27 => ⟨S_, .f32⟩
  | 28 => ⟨S4x1x1024, .f32⟩
  | 29 => ⟨S4x1x1024, .f32⟩
  | 30 => ⟨S4x8192x1024, .f32⟩
  | 31 => ⟨S4x8192x1024, .f32⟩
  | 32 => ⟨S4x8192x1024, .f32⟩
  | 33 => ⟨S4x8192x1024, .f32⟩
  | 34 => ⟨S1x1024x2464, .f32⟩
  | 35 => ⟨S1024x2464, .f32⟩
  | 36 => ⟨S4x8192x2464, .f32⟩
  | 37 => ⟨S4x8192x256, .f32⟩
  | 38 => ⟨S4x8192x256, .f32⟩
  | 39 => ⟨S4x8192x128, .f32⟩
  | 40 => ⟨S4x8192x128, .f32⟩
  | 41 => ⟨S4x8192x256, .f32⟩
  | 42 => ⟨S4x8192x256, .f32⟩
  | 43 => ⟨S4x8192x256, .f32⟩
  | 44 => ⟨S4x8192x256, .f32⟩
  | 45 => ⟨S4x8192x256, .f32⟩
  | 46 => ⟨S4x8192x256, .f32⟩
  | 47 => ⟨S4x8192x128, .f32⟩
  | 48 => ⟨S4x8192x32, .f32⟩
  | 49 => ⟨S4x8192x2x64, .f32⟩
  | 50 => ⟨S_, .f32⟩
  | 51 => ⟨S4x8192x2x1, .f32⟩
  | 52 => ⟨S_, .f32⟩
  | 53 => ⟨S4x8192x2x63, .f32⟩
  | 54 => ⟨S4x8192x2x128, .f32⟩
  | 55 => ⟨S4x8192x256, .f32⟩
  | 56 => ⟨S4x8192x256, .bf16⟩
  | 57 => ⟨S1x128, .f32⟩
  | 58 => ⟨S128, .f32⟩
  | 59 => ⟨S4x8192x128, .f32⟩
  | 60 => ⟨S_, .f32⟩
  | 61 => ⟨S4x8192, .f32⟩
  | 62 => ⟨S4x8192x1, .f32⟩
  | 63 => ⟨S_, .f32⟩
  | 64 => ⟨S4x8192x1, .f32⟩
  | 65 => ⟨S4x8192x1, .f32⟩
  | 66 => ⟨S_, .f32⟩
  | 67 => ⟨S4x8192x1, .f32⟩
  | 68 => ⟨S4x8192x1, .f32⟩
  | 69 => ⟨S4x8192x1, .f32⟩
  | 70 => ⟨S4x8192x128, .f32⟩
  | 71 => ⟨S4x8192x128, .f32⟩
  | 72 => ⟨S1x1x128, .f32⟩
  | 73 => ⟨S4x8192x128, .f32⟩
  | 74 => ⟨S4x8192x128, .f32⟩
  | 75 => ⟨S1x128x512, .f32⟩
  | 76 => ⟨S128x512, .f32⟩
  | 77 => ⟨S4x8192x512, .f32⟩
  | 78 => ⟨S4x8192x4x128, .f32⟩
  | 79 => ⟨S4x8192x4x64, .f32⟩
  | 80 => ⟨S_, .f32⟩
  | 81 => ⟨S4x8192x4x1, .f32⟩
  | 82 => ⟨S_, .f32⟩
  | 83 => ⟨S4x8192x4x63, .f32⟩
  | 84 => ⟨S4x8192x4x128, .f32⟩
  | 85 => ⟨S4x8192x512, .f32⟩
  | 86 => ⟨S4x8192x512, .bf16⟩
  | 87 => ⟨S128, .f32⟩
  | 88 => ⟨S128x64, .f32⟩
  | 89 => ⟨S8192, .f32⟩
  | 90 => ⟨S64, .f32⟩
  | 91 => ⟨S1x64, .f32⟩
  | 92 => ⟨S128x64, .f32⟩
  | 93 => ⟨S8192, .f32⟩
  | 94 => ⟨S16, .f32⟩
  | 95 => ⟨S16, .f32⟩
  | 96 => ⟨S_, .f32⟩
  | 97 => ⟨S16, .f32⟩
  | 98 => ⟨S16, .f32⟩
  | 99 => ⟨S_, .f32⟩
  | 100 => ⟨S16, .f32⟩
  | 101 => ⟨S16, .f32⟩
  | 102 => ⟨S8192x1, .f32⟩
  | 103 => ⟨S1x16, .f32⟩
  | 104 => ⟨S8192x16, .f32⟩
  | 105 => ⟨S8192x16, .f32⟩
  | 106 => ⟨S8192x16, .f32⟩
  | 107 => ⟨S8192x1, .f32⟩
  | 108 => ⟨S1x16, .f32⟩
  | 109 => ⟨S8192x16, .f32⟩
  | 110 => ⟨S8192x16, .f32⟩
  | 111 => ⟨S8192x16, .f32⟩
  | 112 => ⟨S8192x1x16, .f32⟩
  | 113 => ⟨S8192x1x16, .f32⟩
  | 114 => ⟨S8192x2x16, .f32⟩
  | 115 => ⟨S8192x2x16, .f32⟩
  | 116 => ⟨S8192x2x16, .f32⟩
  | 117 => ⟨S4x8192x2x64, .f32⟩
  | 118 => ⟨S4x8192x2x2x2x16, .f32⟩
  | 119 => ⟨S4x8192x2x2x1x16, .f32⟩
  | 120 => ⟨S4x8192x2x2x16, .f32⟩
  | 121 => ⟨S4x8192x2x2x1x16, .f32⟩
  | 122 => ⟨S4x8192x2x2x16, .f32⟩
  | 123 => ⟨S1x8192x1x2x16, .f32⟩
  | 124 => ⟨S1x8192x1x2x16, .f32⟩
  | 125 => ⟨S4x8192x2x2x16, .f32⟩
  | 126 => ⟨S4x8192x2x2x16, .f32⟩
  | 127 => ⟨S4x8192x2x2x16, .f32⟩
  | _ => ⟨S4x8192x1024, .f32⟩

abbrev hbmTy0_1 (i : Nat) : BufTy := match i % 128 with
  | 0 => ⟨S4x8192x2x2x16, .f32⟩
  | 1 => ⟨S4x8192x2x2x16, .f32⟩
  | 2 => ⟨S4x8192x2x2x16, .f32⟩
  | 3 => ⟨S4x8192x2x2x16, .f32⟩
  | 4 => ⟨S4x8192x2x2x16, .f32⟩
  | 5 => ⟨S4x8192x2x2x16, .f32⟩
  | 6 => ⟨S4x8192x2x2x16, .f32⟩
  | 7 => ⟨S4x8192x2x2x1x16, .f32⟩
  | 8 => ⟨S4x8192x2x2x1x16, .f32⟩
  | 9 => ⟨S4x8192x2x2x2x16, .f32⟩
  | 10 => ⟨S4x8192x2x64, .f32⟩
  | 11 => ⟨S_, .f32⟩
  | 12 => ⟨S4x8192x2x1, .f32⟩
  | 13 => ⟨S_, .f32⟩
  | 14 => ⟨S4x8192x2x63, .f32⟩
  | 15 => ⟨S4x8192x2x128, .f32⟩
  | 16 => ⟨S4x8192x256, .f32⟩
  | 17 => ⟨S4x8192x256, .bf16⟩
  | 18 => ⟨S4x8192x4x64, .f32⟩
  | 19 => ⟨S4x8192x4x2x2x16, .f32⟩
  | 20 => ⟨S4x8192x4x2x1x16, .f32⟩
  | 21 => ⟨S4x8192x4x2x16, .f32⟩
  | 22 => ⟨S4x8192x4x2x1x16, .f32⟩
  | 23 => ⟨S4x8192x4x2x16, .f32⟩
  | 24 => ⟨S1x8192x1x2x16, .f32⟩
  | 25 => ⟨S1x8192x1x2x16, .f32⟩
  | 26 => ⟨S4x8192x4x2x16, .f32⟩
  | 27 => ⟨S4x8192x4x2x16, .f32⟩
  | 28 => ⟨S4x8192x4x2x16, .f32⟩
  | 29 => ⟨S4x8192x4x2x16, .f32⟩
  | 30 => ⟨S4x8192x4x2x16, .f32⟩
  | 31 => ⟨S4x8192x4x2x16, .f32⟩
  | 32 => ⟨S4x8192x4x2x16, .f32⟩
  | 33 => ⟨S4x8192x4x2x16, .f32⟩
  | 34 => ⟨S4x8192x4x2x16, .f32⟩
  | 35 => ⟨S4x8192x4x2x16, .f32⟩
  | 36 => ⟨S4x8192x4x2x1x16, .f32⟩
  | 37 => ⟨S4x8192x4x2x1x16, .f32⟩
  | 38 => ⟨S4x8192x4x2x2x16, .f32⟩
  | 39 => ⟨S4x8192x4x64, .f32⟩
  | 40 => ⟨S_, .f32⟩
  | 41 => ⟨S4x8192x4x1, .f32⟩
  | 42 => ⟨S_, .f32⟩
  | 43 => ⟨S4x8192x4x63, .f32⟩
  | 44 => ⟨S4x8192x4x128, .f32⟩
  | 45 => ⟨S4x8192x512, .f32⟩
  | 46 => ⟨S4x8192x512, .bf16⟩
  | 47 => ⟨S128, .f32⟩
  | 48 => ⟨S128x64, .f32⟩
  | 49 => ⟨S8192, .f32⟩
  | 50 => ⟨S64, .f32⟩
  | 51 => ⟨S1x64, .f32⟩
  | 52 => ⟨S128x64, .f32⟩
  | 53 => ⟨S8192, .f32⟩
  | 54 => ⟨S8, .f32⟩
  | 55 => ⟨S8, .f32⟩
  | 56 => ⟨S_, .f32⟩
  | 57 => ⟨S8, .f32⟩
  | 58 => ⟨S8, .f32⟩
  | 59 => ⟨S_, .f32⟩
  | 60 => ⟨S8, .f32⟩
  | 61 => ⟨S8, .f32⟩
  | 62 => ⟨S8192x1, .f32⟩
  | 63 => ⟨S1x8, .f32⟩
  | 64 => ⟨S8192x8, .f32⟩
  | 65 => ⟨S8192x8, .f32⟩
  | 66 => ⟨S8192x8, .f32⟩
  | 67 => ⟨S8192x1, .f32⟩
  | 68 => ⟨S1x8, .f32⟩
  | 69 => ⟨S8192x8, .f32⟩
  | 70 => ⟨S8192x8, .f32⟩
  | 71 => ⟨S8192x8, .f32⟩
  | 72 => ⟨S8192x1x8, .f32⟩
  | 73 => ⟨S8192x1x8, .f32⟩
  | 74 => ⟨S8192x2x8, .f32⟩
  | 75 => ⟨S8192x2x8, .f32⟩
  | 76 => ⟨S8192x2x8, .f32⟩
  | 77 => ⟨S4x8192x1x32, .f32⟩
  | 78 => ⟨S4x8192x1x2x2x8, .f32⟩
  | 79 => ⟨S4x8192x1x2x1x8, .f32⟩
  | 80 => ⟨S4x8192x1x2x8, .f32⟩
  | 81 => ⟨S4x8192x1x2x1x8, .f32⟩
  | 82 => ⟨S4x8192x1x2x8, .f32⟩
  | 83 => ⟨S1x8192x1x2x8, .f32⟩
  | 84 => ⟨S1x8192x1x2x8, .f32⟩
  | 85 => ⟨S4x8192x1x2x8, .f32⟩
  | 86 => ⟨S4x8192x1x2x8, .f32⟩
  | 87 => ⟨S4x8192x1x2x8, .f32⟩
  | 88 => ⟨S4x8192x1x2x8, .f32⟩
  | 89 => ⟨S4x8192x1x2x8, .f32⟩
  | 90 => ⟨S4x8192x1x2x8, .f32⟩
  | 91 => ⟨S4x8192x1x2x8, .f32⟩
  | 92 => ⟨S4x8192x1x2x8, .f32⟩
  | 93 => ⟨S4x8192x1x2x8, .f32⟩
  | 94 => ⟨S4x8192x1x2x8, .f32⟩
  | 95 => ⟨S4x8192x1x2x1x8, .f32⟩
  | 96 => ⟨S4x8192x1x2x1x8, .f32⟩
  | 97 => ⟨S4x8192x1x2x2x8, .f32⟩
  | 98 => ⟨S4x8192x1x32, .f32⟩
  | 99 => ⟨S4x8192x4x32, .f32⟩
  | 100 => ⟨S4x8192x4x64, .f32⟩
  | 101 => ⟨S4x8192x4x96, .f32⟩
  | 102 => ⟨S_, .f32⟩
  | 103 => ⟨S4x8192x4x1, .f32⟩
  | 104 => ⟨S_, .f32⟩
  | 105 => ⟨S4x8192x4x31, .f32⟩
  | 106 => ⟨S4x8192x4x128, .f32⟩
  | 107 => ⟨S4x8192x512, .f32⟩
  | 108 => ⟨S4x8192x512, .bf16⟩
  | 109 => ⟨S1x256, .f32⟩
  | 110 => ⟨S256, .f32⟩
  | 111 => ⟨S4x8192x256, .f32⟩
  | 112 => ⟨S_, .f32⟩
  | 113 => ⟨S4x8192, .f32⟩
  | 114 => ⟨S4x8192x1, .f32⟩
  | 115 => ⟨S_, .f32⟩
  | 116 => ⟨S4x8192x1, .f32⟩
  | 117 => ⟨S4x8192x1, .f32⟩
  | 118 => ⟨S_, .f32⟩
  | 119 => ⟨S4x8192x1, .f32⟩
  | 120 => ⟨S4x8192x1, .f32⟩
  | 121 => ⟨S4x8192x1, .f32⟩
  | 122 => ⟨S4x8192x256, .f32⟩
  | 123 => ⟨S4x8192x256, .f32⟩
  | 124 => ⟨S1x1x256, .f32⟩
  | 125 => ⟨S4x8192x256, .f32⟩
  | 126 => ⟨S4x8192x256, .f32⟩
  | 127 => ⟨S1x256x384, .f32⟩
  | _ => ⟨S4x8192x1024, .f32⟩

abbrev hbmTy0_2 (i : Nat) : BufTy := match i % 128 with
  | 0 => ⟨S256x384, .f32⟩
  | 1 => ⟨S4x8192x384, .f32⟩
  | 2 => ⟨S4x8192x4x96, .f32⟩
  | 3 => ⟨S4x8192x4x64, .f32⟩
  | 4 => ⟨S4x8192x4x32, .f32⟩
  | 5 => ⟨S4x8192x4x2x2x8, .f32⟩
  | 6 => ⟨S4x8192x4x2x1x8, .f32⟩
  | 7 => ⟨S4x8192x4x2x8, .f32⟩
  | 8 => ⟨S4x8192x4x2x1x8, .f32⟩
  | 9 => ⟨S4x8192x4x2x8, .f32⟩
  | 10 => ⟨S1x8192x1x2x8, .f32⟩
  | 11 => ⟨S1x8192x1x2x8, .f32⟩
  | 12 => ⟨S4x8192x4x2x8, .f32⟩
  | 13 => ⟨S4x8192x4x2x8, .f32⟩
  | 14 => ⟨S4x8192x4x2x8, .f32⟩
  | 15 => ⟨S4x8192x4x2x8, .f32⟩
  | 16 => ⟨S4x8192x4x2x8, .f32⟩
  | 17 => ⟨S4x8192x4x2x8, .f32⟩
  | 18 => ⟨S4x8192x4x2x8, .f32⟩
  | 19 => ⟨S4x8192x4x2x8, .f32⟩
  | 20 => ⟨S4x8192x4x2x8, .f32⟩
  | 21 => ⟨S4x8192x4x2x8, .f32⟩
  | 22 => ⟨S4x8192x4x2x1x8, .f32⟩
  | 23 => ⟨S4x8192x4x2x1x8, .f32⟩
  | 24 => ⟨S4x8192x4x2x2x8, .f32⟩
  | 25 => ⟨S4x8192x4x32, .f32⟩
  | 26 => ⟨S4x8192x4x96, .f32⟩
  | 27 => ⟨S_, .f32⟩
  | 28 => ⟨S4x8192x4x1, .f32⟩
  | 29 => ⟨S_, .f32⟩
  | 30 => ⟨S4x8192x4x31, .f32⟩
  | 31 => ⟨S4x8192x4x128, .f32⟩
  | 32 => ⟨S4x8192x512, .f32⟩
  | 33 => ⟨S4x8192x512, .bf16⟩
  | 34 => ⟨S4x512x16x256, .f32⟩
  | 35 => ⟨S4x16x512x256, .f32⟩
  | 36 => ⟨S4x8192x256, .bf16⟩
  | _ => ⟨S4x8192x1024, .f32⟩

abbrev hbmTy (i : Nat) : BufTy := match i / 128 with
  | 0 => hbmTy0_0 i
  | 1 => hbmTy0_1 i
  | 2 => hbmTy0_2 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_3 : Ref sig .tc := ⟨.hbm, 50, rfl⟩
abbrev main_v37 : Ref sig .tc := ⟨.hbm, 51, rfl⟩
abbrev main_cst_4 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_5 : Ref sig .tc := ⟨.hbm, 60, rfl⟩
abbrev main_v45 : Ref sig .tc := ⟨.hbm, 61, rfl⟩
abbrev main_v46 : Ref sig .tc := ⟨.hbm, 62, rfl⟩
abbrev main_cst_6 : Ref sig .tc := ⟨.hbm, 63, rfl⟩
abbrev main_v47 : Ref sig .tc := ⟨.hbm, 64, rfl⟩
abbrev main_v48 : Ref sig .tc := ⟨.hbm, 65, rfl⟩
abbrev main_cst_7 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_8 : Ref sig .tc := ⟨.hbm, 80, rfl⟩
abbrev main_v62 : Ref sig .tc := ⟨.hbm, 81, rfl⟩
abbrev main_cst_9 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_cst_10 : Ref sig .tc := ⟨.hbm, 96, rfl⟩
abbrev main_v76 : Ref sig .tc := ⟨.hbm, 97, rfl⟩
abbrev main_v77 : Ref sig .tc := ⟨.hbm, 98, rfl⟩
abbrev main_cst_11 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_cst_12 : Ref sig .tc := ⟨.hbm, 139, rfl⟩
abbrev main_v117 : Ref sig .tc := ⟨.hbm, 140, rfl⟩
abbrev main_cst_13 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_cst_14 : Ref sig .tc := ⟨.hbm, 168, rfl⟩
abbrev main_v144 : Ref sig .tc := ⟨.hbm, 169, rfl⟩
abbrev main_cst_15 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩
abbrev main_v154 : Ref sig .tc := ⟨.hbm, 180, rfl⟩
abbrev main_v155 : Ref sig .tc := ⟨.hbm, 181, rfl⟩
abbrev main_v156 : Ref sig .tc := ⟨.hbm, 182, rfl⟩
abbrev main_v157 : Ref sig .tc := ⟨.hbm, 183, rfl⟩
abbrev main_cst_16 : Ref sig .tc := ⟨.hbm, 184, rfl⟩
abbrev main_v158 : Ref sig .tc := ⟨.hbm, 185, rfl⟩
abbrev main_v159 : Ref sig .tc := ⟨.hbm, 186, rfl⟩
abbrev main_cst_17 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩
abbrev main_v167 : Ref sig .tc := ⟨.hbm, 195, rfl⟩
abbrev main_v168 : Ref sig .tc := ⟨.hbm, 196, rfl⟩
abbrev main_v169 : Ref sig .tc := ⟨.hbm, 197, rfl⟩
abbrev main_v170 : Ref sig .tc := ⟨.hbm, 198, rfl⟩
abbrev main_v171 : Ref sig .tc := ⟨.hbm, 199, rfl⟩
abbrev main_v172 : Ref sig .tc := ⟨.hbm, 200, rfl⟩
abbrev main_v173 : Ref sig .tc := ⟨.hbm, 201, rfl⟩
abbrev main_v174 : Ref sig .tc := ⟨.hbm, 202, rfl⟩
abbrev main_v175 : Ref sig .tc := ⟨.hbm, 203, rfl⟩
abbrev main_v176 : Ref sig .tc := ⟨.hbm, 204, rfl⟩
abbrev main_v177 : Ref sig .tc := ⟨.hbm, 205, rfl⟩
abbrev main_v178 : Ref sig .tc := ⟨.hbm, 206, rfl⟩
abbrev main_v179 : Ref sig .tc := ⟨.hbm, 207, rfl⟩
abbrev main_v180 : Ref sig .tc := ⟨.hbm, 208, rfl⟩
abbrev main_v181 : Ref sig .tc := ⟨.hbm, 209, rfl⟩
abbrev main_v182 : Ref sig .tc := ⟨.hbm, 210, rfl⟩
abbrev main_v183 : Ref sig .tc := ⟨.hbm, 211, rfl⟩
abbrev main_v184 : Ref sig .tc := ⟨.hbm, 212, rfl⟩
abbrev main_v185 : Ref sig .tc := ⟨.hbm, 213, rfl⟩
abbrev main_v186 : Ref sig .tc := ⟨.hbm, 214, rfl⟩
abbrev main_v187 : Ref sig .tc := ⟨.hbm, 215, rfl⟩
abbrev main_v188 : Ref sig .tc := ⟨.hbm, 216, rfl⟩
abbrev main_v189 : Ref sig .tc := ⟨.hbm, 217, rfl⟩
abbrev main_v190 : Ref sig .tc := ⟨.hbm, 218, rfl⟩
abbrev main_v191 : Ref sig .tc := ⟨.hbm, 219, rfl⟩
abbrev main_v192 : Ref sig .tc := ⟨.hbm, 220, rfl⟩
abbrev main_v193 : Ref sig .tc := ⟨.hbm, 221, rfl⟩
abbrev main_v194 : Ref sig .tc := ⟨.hbm, 222, rfl⟩
abbrev main_v195 : Ref sig .tc := ⟨.hbm, 223, rfl⟩
abbrev main_v196 : Ref sig .tc := ⟨.hbm, 224, rfl⟩
abbrev main_v197 : Ref sig .tc := ⟨.hbm, 225, rfl⟩
abbrev main_v198 : Ref sig .tc := ⟨.hbm, 226, rfl⟩
abbrev main_v199 : Ref sig .tc := ⟨.hbm, 227, rfl⟩
abbrev main_v200 : Ref sig .tc := ⟨.hbm, 228, rfl⟩
abbrev main_v201 : Ref sig .tc := ⟨.hbm, 229, rfl⟩
abbrev main_cst_18 : Ref sig .tc := ⟨.hbm, 230, rfl⟩
abbrev main_v202 : Ref sig .tc := ⟨.hbm, 231, rfl⟩
abbrev main_cst_19 : Ref sig .tc := ⟨.hbm, 232, rfl⟩
abbrev main_v203 : Ref sig .tc := ⟨.hbm, 233, rfl⟩
abbrev main_v204 : Ref sig .tc := ⟨.hbm, 234, rfl⟩
abbrev main_v205 : Ref sig .tc := ⟨.hbm, 235, rfl⟩
abbrev main_v206 : Ref sig .tc := ⟨.hbm, 236, rfl⟩
abbrev main_v207 : Ref sig .tc := ⟨.hbm, 237, rfl⟩
abbrev main_v208 : Ref sig .tc := ⟨.hbm, 238, rfl⟩
abbrev main_v209 : Ref sig .tc := ⟨.hbm, 239, rfl⟩
abbrev main_cst_20 : Ref sig .tc := ⟨.hbm, 240, rfl⟩
abbrev main_v210 : Ref sig .tc := ⟨.hbm, 241, rfl⟩
abbrev main_v211 : Ref sig .tc := ⟨.hbm, 242, rfl⟩
abbrev main_cst_21 : Ref sig .tc := ⟨.hbm, 243, rfl⟩
abbrev main_v212 : Ref sig .tc := ⟨.hbm, 244, rfl⟩
abbrev main_v213 : Ref sig .tc := ⟨.hbm, 245, rfl⟩
abbrev main_cst_22 : Ref sig .tc := ⟨.hbm, 246, rfl⟩
abbrev main_v214 : Ref sig .tc := ⟨.hbm, 247, rfl⟩
abbrev main_v215 : Ref sig .tc := ⟨.hbm, 248, rfl⟩
abbrev main_v216 : Ref sig .tc := ⟨.hbm, 249, rfl⟩
abbrev main_v217 : Ref sig .tc := ⟨.hbm, 250, rfl⟩
abbrev main_v218 : Ref sig .tc := ⟨.hbm, 251, rfl⟩
abbrev main_v219 : Ref sig .tc := ⟨.hbm, 252, rfl⟩
abbrev main_v220 : Ref sig .tc := ⟨.hbm, 253, rfl⟩
abbrev main_v221 : Ref sig .tc := ⟨.hbm, 254, rfl⟩
abbrev main_v222 : Ref sig .tc := ⟨.hbm, 255, rfl⟩
abbrev main_v223 : Ref sig .tc := ⟨.hbm, 256, rfl⟩
abbrev main_v224 : Ref sig .tc := ⟨.hbm, 257, rfl⟩
abbrev main_v225 : Ref sig .tc := ⟨.hbm, 258, rfl⟩
abbrev main_v226 : Ref sig .tc := ⟨.hbm, 259, rfl⟩
abbrev main_v227 : Ref sig .tc := ⟨.hbm, 260, rfl⟩
abbrev main_v228 : Ref sig .tc := ⟨.hbm, 261, rfl⟩
abbrev main_v229 : Ref sig .tc := ⟨.hbm, 262, rfl⟩
abbrev main_v230 : Ref sig .tc := ⟨.hbm, 263, rfl⟩
abbrev main_v231 : Ref sig .tc := ⟨.hbm, 264, rfl⟩
abbrev main_v232 : Ref sig .tc := ⟨.hbm, 265, rfl⟩
abbrev main_v233 : Ref sig .tc := ⟨.hbm, 266, rfl⟩
abbrev main_v234 : Ref sig .tc := ⟨.hbm, 267, rfl⟩
abbrev main_v235 : Ref sig .tc := ⟨.hbm, 268, rfl⟩
abbrev main_v236 : Ref sig .tc := ⟨.hbm, 269, rfl⟩
abbrev main_v237 : Ref sig .tc := ⟨.hbm, 270, rfl⟩
abbrev main_v238 : Ref sig .tc := ⟨.hbm, 271, rfl⟩
abbrev main_v239 : Ref sig .tc := ⟨.hbm, 272, rfl⟩
abbrev main_v240 : Ref sig .tc := ⟨.hbm, 273, rfl⟩
abbrev main_v241 : Ref sig .tc := ⟨.hbm, 274, rfl⟩
abbrev main_v242 : Ref sig .tc := ⟨.hbm, 275, rfl⟩
abbrev main_v243 : Ref sig .tc := ⟨.hbm, 276, rfl⟩
abbrev main_v244 : Ref sig .tc := ⟨.hbm, 277, rfl⟩
abbrev main_v245 : Ref sig .tc := ⟨.hbm, 278, rfl⟩
abbrev main_v246 : Ref sig .tc := ⟨.hbm, 279, rfl⟩
abbrev main_v247 : Ref sig .tc := ⟨.hbm, 280, rfl⟩
abbrev main_v248 : Ref sig .tc := ⟨.hbm, 281, rfl⟩
abbrev main_v249 : Ref sig .tc := ⟨.hbm, 282, rfl⟩
abbrev main_cst_23 : Ref sig .tc := ⟨.hbm, 283, rfl⟩
abbrev main_v250 : Ref sig .tc := ⟨.hbm, 284, rfl⟩
abbrev main_cst_24 : Ref sig .tc := ⟨.hbm, 285, rfl⟩
abbrev main_v251 : Ref sig .tc := ⟨.hbm, 286, rfl⟩
abbrev main_v252 : Ref sig .tc := ⟨.hbm, 287, rfl⟩
abbrev main_v253 : Ref sig .tc := ⟨.hbm, 288, rfl⟩
abbrev main_v254 : Ref sig .tc := ⟨.hbm, 289, rfl⟩
abbrev main_v255 : Ref sig .tc := ⟨.hbm, 290, rfl⟩
abbrev main_v256 : Ref sig .tc := ⟨.hbm, 291, rfl⟩
abbrev main_v257 : Ref sig .tc := ⟨.hbm, 292, rfl⟩

abbrev nD : Nat := 1
abbrev τ : Topo := Topo.v7x

variable {F : FTy → Type} [FloatOps F]
-- ==== Proof.MlaBlock.lean ====
module

public import proofs.«01_k».proof.Proof.Gen.KernelIdeal.Skeleton
public import Idealize.ShloMosaic.Lib.Pointwise

@[expose] public section

set_option maxRecDepth 16384

/-!
  What one block of the attention computes: the body's value at one query row and one lane, read down to sums over keys.
-/

noncomputable section

namespace Cert.Mla

open Cert.KernelIdeal Cert.KernelIdeal.Gen Idealize.ShloMosaic

/-- The score of a query against a key: their inner product, the query multiplied by the kernel's scale first. -/
def score (q k : Fin 128 → EReal) : EReal := ∑ d, q d * (Named.named (F := Ideal) (φ := .f32) κ "scale_log2e" 0x3E16C740#32) * k d

/-- The largest score of a block of keys. -/
def top {n : ℕ} (s : Fin n → EReal) : EReal := Finset.univ.fold max (Ideal.ofBits .f32 0xFF800000#32) s

/-- Two to the power of an extended real. -/
def two (x : EReal) : EReal := FloatOps.exp2 (F := Ideal) (φ := .f32) x

/-- A block of values, each weighted by two to the power of its score less the level `M`. -/
def part {n : ℕ} (M : EReal) (s v : Fin n → EReal) : EReal := ∑ k, two (s k - M) * v k

/-- The level after the context and the first block of keys. -/
def lvl0 (sc : Fin 256 → EReal) (s0 : Fin 2048 → EReal) : EReal := max (top sc) (top s0)

/-- The running sum after the context and the first block of keys. -/
def sum0 (sc vc : Fin 256 → EReal) (s0 v0 : Fin 2048 → EReal) : EReal :=
  part (lvl0 sc s0) sc vc + part (lvl0 sc s0) s0 v0

/-- One further block: the running sum moved to the new level, and the block's own part. -/
def next (M A : EReal) (s v : Fin 2048 → EReal) : EReal :=
  two (M - max M (top s)) * A + part (max M (top s)) s v

/-- A row of a block with a leading axis of extent one. -/
abbrev row {n : ℕ} (x : Vec Ideal ⟨3, ![1, n, 128]⟩ .bf16) (r : Fin n) : Fin 128 → EReal := fun d => x (ix3 0 r d)

/-- A lane of a block with a leading axis of extent one. -/
abbrev lane {n : ℕ} (x : Vec Ideal ⟨3, ![1, n, 128]⟩ .bf16) (d : Fin 128) : Fin n → EReal := fun r => x (ix3 0 r d)

/-- A query's scores against the rows of a block of keys. -/
abbrev scores {n : ℕ} (q : Fin 128 → EReal) (x : Vec Ideal ⟨3, ![1, n, 128]⟩ .bf16) : Fin n → EReal := fun k => score q (row x k)

section Payloads

variable (v0 : Vec Ideal S1x1024x128 .bf16) (v6 v9 : Vec Ideal S1x256x128 .bf16) (v11 v14 v37 v52 v59 v74 v81 v96 : Vec Ideal S1x2048x128 .bf16)
variable (v20 v64 : FVec Ideal S1024x1 .f32) (v33 v72 : FVec Ideal S1024x128 .f32) (v68 : FVec Ideal S1024x2048 .bf16)
variable (r : Fin 1024) (d : Fin 128)

theorem pay3_apply (k : Fin 256) : k0_pay3 v0 v6 (ix2 r k) = scores (row v0 r) v6 k := by
  unfold scores score row; pointwise [k0_pay3, k0_pay2]

theorem pay4_apply (k : Fin 2048) : k0_pay4 v0 v11 (ix2 r k) = scores (row v0 r) v11 k := by
  unfold scores score row; pointwise [k0_pay4, k0_pay2]

theorem pay7_apply (k : Fin 2048) : k0_pay7 (k0_pay2 v0) v37 (ix2 r k) = scores (row v0 r) v37 k := by
  unfold scores score row; pointwise [k0_pay7, k0_pay2]

theorem pay9_apply (k : Fin 2048) : k0_pay9 (k0_pay2 v0) v59 (ix2 r k) = scores (row v0 r) v59 k := by
  unfold scores score row; pointwise [k0_pay9, k0_pay2]

/-- The column of row maxima of a block of 256 scores. -/
theorem colmax256 (z : FVec Ideal S1024x256 .f32) (w : Fin 1) :
    shapeCast S1024x1 (multiReduction (F := Ideal) .maximumf [1] S1024 z 0xFF800000#32 reduces_S1024x256_S1024 (.inl rfl) rfl)
      shapeCasts_S1024_S1024x1 (ix2 r w) = top fun k => z (ix2 r k) := by
  unfold top; pointwise

/-- The column of row maxima of a block of 2048 scores. -/
theorem colmax2048 (z : FVec Ideal S1024x2048 .f32) (w : Fin 1) :
    shapeCast S1024x1 (multiReduction (F := Ideal) .maximumf [1] S1024 z 0xFF800000#32 reduces_S1024x2048_S1024 (.inl rfl) rfl)
      shapeCasts_S1024_S1024x1 (ix2 r w) = top fun k => z (ix2 r k) := by
  unfold top; pointwise

theorem pay5_apply : k0_pay5 v0 v6 v11 (ix2 r 0) = lvl0 (scores (row v0 r) v6) (scores (row v0 r) v11) := by

  have e : k0_pay5 v0 v6 v11 = maximumf (shapeCast S1024x1 (multiReduction (F := Ideal) .maximumf [1] S1024 (k0_pay3 v0 v6) 0xFF800000#32 reduces_S1024x256_S1024 (.inl rfl) rfl) shapeCasts_S1024_S1024x1)
      (shapeCast S1024x1 (multiReduction (F := Ideal) .maximumf [1] S1024 (k0_pay4 v0 v11) 0xFF800000#32 reduces_S1024x2048_S1024 (.inl rfl) rfl) shapeCasts_S1024_S1024x1) := rfl
  rw [e, maximumf_apply, Ideal.maximumf_def, colmax256, colmax2048]
  unfold lvl0
  simp only [pay3_apply, pay4_apply]

theorem pay6_apply : k0_pay6 v0 v6 v9 v11 v14 (ix2 r d)
    = sum0 (scores (row v0 r) v6) (lane v9 d) (scores (row v0 r) v11) (lane v14 d) := by
  unfold sum0 part two lane; pointwise [k0_pay6, pay3_apply, pay4_apply, pay5_apply]

theorem pay8_apply : k0_pay8 (k0_pay2 v0) v20 v37 (ix2 r 0) = max (v20 (ix2 r 0)) (top (scores (row v0 r) v37)) := by

  have e : k0_pay8 (k0_pay2 v0) v20 v37 = maximumf v20
      (shapeCast S1024x1 (multiReduction (F := Ideal) .maximumf [1] S1024 (k0_pay7 (k0_pay2 v0) v37) 0xFF800000#32 reduces_S1024x2048_S1024 (.inl rfl) rfl) shapeCasts_S1024_S1024x1) := rfl
  rw [e, maximumf_apply, Ideal.maximumf_def, colmax2048]
  simp only [pay7_apply]

theorem pay10_apply : k0_pay10 (k0_pay2 v0) v20 v37 v59 (ix2 r 0)
    = max (max (v20 (ix2 r 0)) (top (scores (row v0 r) v37))) (top (scores (row v0 r) v59)) := by

  have e : k0_pay10 (k0_pay2 v0) v20 v37 v59 = maximumf (k0_pay8 (k0_pay2 v0) v20 v37)
      (shapeCast S1024x1 (multiReduction (F := Ideal) .maximumf [1] S1024 (k0_pay9 (k0_pay2 v0) v59) 0xFF800000#32 reduces_S1024x2048_S1024 (.inl rfl) rfl) shapeCasts_S1024_S1024x1) := rfl
  rw [e, maximumf_apply, Ideal.maximumf_def, colmax2048, pay8_apply]
  simp only [pay9_apply]

theorem pay11_apply (k : Fin 2048) : k0_pay11 (k0_pay2 v0) v20 v37 v59 (ix2 r k)
    = two (scores (row v0 r) v59 k - max (max (v20 (ix2 r 0)) (top (scores (row v0 r) v37))) (top (scores (row v0 r) v59))) := by
  unfold two; pointwise [k0_pay11, pay9_apply, pay10_apply]

theorem pay12_apply : k0_pay12 (k0_pay2 v0) v20 v33 v37 v52 v59 (ix2 r d)
    = two (max (v20 (ix2 r 0)) (top (scores (row v0 r) v37))
          - max (max (v20 (ix2 r 0)) (top (scores (row v0 r) v37))) (top (scores (row v0 r) v59)))
      * next (v20 (ix2 r 0)) (v33 (ix2 r d)) (scores (row v0 r) v37) (lane v52 d) := by
  unfold next part two lane; pointwise [k0_pay12, pay7_apply, pay8_apply, pay10_apply]

theorem pay1_apply : k0_pay1 (k0_pay2 v0) v64 v68 v72 (k0_pay13 v74) (constant S1024x128 .f32 0x00000000#32) v81 v96 (ix3 0 r d)
    = next (v64 (ix2 r 0)) (v72 (ix2 r d) + ∑ k, v68 (ix2 r k) * lane v74 d k) (scores (row v0 r) v81) (lane v96 d)
      * Ideal.div 1 (next (v64 (ix2 r 0)) (v72 (ix2 r 64) + ∑ k, v68 (ix2 r k) * lane v74 64 k) (scores (row v0 r) v81) (lane v96 64)) := by
  unfold next part two lane top scores score row; pointwise [k0_pay1, k0_pay13, k0_pay2]

end Payloads

end Cert.Mla
-- ==== Proof.Softmax.lean ====
module

public import Idealize.ShloMosaic.Lib.Pointwise
public import Mathlib.Analysis.SpecialFunctions.Pow.Real

@[expose] public section

/-!
  Weighted sums of extended reals under real scores: what a softmax that runs over its keys block by block needs.
  Nothing here speaks of a program.
-/

noncomputable section

namespace Cert.Softmax

open Idealize.ShloMosaic

variable {ι : Type} [Fintype ι]

/-- A non-negative real factor goes into a sum of extended reals. -/
theorem coe_mul_sum (S : Finset ι) (r : ℝ) (hr : 0 ≤ r) (f : ι → EReal) :
    (r : EReal) * ∑ k ∈ S, f k = ∑ k ∈ S, (r : EReal) * f k := by
  classical
  induction S using Finset.induction_on with
  | empty => simp
  | insert a S ha ih =>
    rw [Finset.sum_insert ha, Finset.sum_insert ha,
      EReal.left_distrib_of_nonneg_of_ne_top (EReal.coe_nonneg.mpr hr) (EReal.coe_ne_top r), ih]

/-- A sum of reals, read in the extended reals. -/
theorem coe_sum (S : Finset ι) (f : ι → ℝ) : ((∑ k ∈ S, f k : ℝ) : EReal) = ∑ k ∈ S, (f k : EReal) := by
  classical
  induction S using Finset.induction_on with
  | empty => simp
  | insert a S ha ih => rw [Finset.sum_insert ha, Finset.sum_insert ha, EReal.coe_add, ih]

/-- The larger of two reals, read in the extended reals. -/
theorem coe_max (a b : ℝ) : max (a : EReal) (b : EReal) = ((max a b : ℝ) : EReal) :=
  (EReal.coe_strictMono.monotone.map_max).symm

/-- The largest of finitely many reals, taken over the extended reals from below all of them, is a real. -/
theorem fold_max_real [Nonempty ι] (s : ι → ℝ) :
    ∃ M : ℝ, Finset.univ.fold max (⊥ : EReal) (fun k => (s k : EReal)) = (M : EReal) := by
  classical
  have key : ∀ S : Finset ι, S.Nonempty → ∃ M : ℝ, S.fold max (⊥ : EReal) (fun k => (s k : EReal)) = (M : EReal) := by
    intro S hS
    induction hS using Finset.Nonempty.cons_induction with
    | singleton a => exact ⟨s a, by rw [Finset.fold_singleton]; exact max_eq_left bot_le⟩
    | cons a S ha hS ih =>
      obtain ⟨M, hM⟩ := ih
      exact ⟨max (s a) M, by rw [Finset.fold_cons, hM, coe_max]⟩
  exact key _ Finset.univ_nonempty

/-- The values weighted by two to the power of their score less the level `M`. -/
def acc (M : ℝ) (s : ι → ℝ) (v : ι → EReal) : EReal := ∑ k, ((Real.rpow 2 (s k - M) : ℝ) : EReal) * v k

/-- Moving the level from `M` to `M'` multiplies the sum by two to the power of the difference. -/
theorem acc_rescale (M M' : ℝ) (s : ι → ℝ) (v : ι → EReal) :
    ((Real.rpow 2 (M - M') : ℝ) : EReal) * acc M s v = acc M' s v := by
  unfold acc
  have h0 : (0 : ℝ) ≤ Real.rpow 2 (M - M') := Real.rpow_nonneg (by norm_num) _
  rw [coe_mul_sum _ _ h0]
  refine Finset.sum_congr rfl fun k _ => ?_
  rw [← mul_assoc, ← EReal.coe_mul]
  congr 2
  show (2 : ℝ) ^ (M - M') * (2 : ℝ) ^ (s k - M) = (2 : ℝ) ^ (s k - M')
  rw [← Real.rpow_add (by norm_num)]
  congr 1
  ring

/-- A non-negative real factor goes into a sum of two extended reals. -/
theorem coe_mul_add (r : ℝ) (hr : 0 ≤ r) (a b : EReal) : (r : EReal) * (a + b) = (r : EReal) * a + (r : EReal) * b :=
  EReal.left_distrib_of_nonneg_of_ne_top (EReal.coe_nonneg.mpr hr) (EReal.coe_ne_top r) _ _

/-- The weights of a softmax do not depend on the level taken off the scores, nor on whether the exponential is taken
    with base two of scores already divided by the logarithm of two. -/
theorem weight_eq [Nonempty ι] (s t : ι → ℝ) (M M' : ℝ) (hst : ∀ k, s k * Real.log 2 = t k) (k : ι) :
    (∑ j, Real.rpow 2 (s j - M))⁻¹ * Real.rpow 2 (s k - M)
      = Real.exp (t k - M') / ∑ j, Real.exp (t j - M') := by
  have h2 : ∀ j, Real.rpow 2 (s j - M) = Real.exp (t j) * Real.exp (-(M * Real.log 2)) := by
    intro j
    show (2 : ℝ) ^ (s j - M) = _
    rw [Real.rpow_def_of_pos (by norm_num), ← Real.exp_add, ← hst j]
    congr 1
    ring
  have h3 : ∀ j, Real.exp (t j - M') = Real.exp (t j) * Real.exp (-M') := by
    intro j; rw [← Real.exp_add]; congr 1
  have hpos : 0 < ∑ j, Real.exp (t j) := Finset.sum_pos (fun j _ => Real.exp_pos _) Finset.univ_nonempty
  simp only [h2, h3]
  rw [← Finset.sum_mul, ← Finset.sum_mul]
  have ha := Real.exp_pos (-(M * Real.log 2))
  have hb := Real.exp_pos (-M')
  field_simp

/-- A weighted sum divided by the sum of its weights is the softmax of the scores applied to the values. -/
theorem acc_div [Nonempty ι] (s t : ι → ℝ) (v : ι → EReal) (M M' : ℝ) (hst : ∀ k, s k * Real.log 2 = t k) :
    acc M s v * Ideal.div 1 (acc M s fun _ => 1)
      = ∑ k, v k * Ideal.div (Ideal.exp ((t k : EReal) - (M' : EReal))) (∑ j, Ideal.exp ((t j : EReal) - (M' : EReal))) := by
  have hpos : 0 < ∑ j, Real.rpow 2 (s j - M) :=
    Finset.sum_pos (fun j _ => Real.rpow_pos_of_pos (by norm_num) _) Finset.univ_nonempty
  have hpos' : 0 < ∑ j, Real.exp (t j - M') :=
    Finset.sum_pos (fun j _ => Real.exp_pos _) Finset.univ_nonempty
  have hz : acc M s (fun _ => 1) = ((∑ j, Real.rpow 2 (s j - M) : ℝ) : EReal) := by
    unfold acc; rw [coe_sum]; exact Finset.sum_congr rfl fun k _ => mul_one _
  have he : ∀ j, Ideal.exp ((t j : EReal) - (M' : EReal)) = ((Real.exp (t j - M') : ℝ) : EReal) := by
    intro j; rw [← EReal.coe_sub]; rfl
  have hd : Ideal.div 1 (acc M s fun _ => 1) = (((∑ j, Real.rpow 2 (s j - M))⁻¹ : ℝ) : EReal) := by
    rw [hz]
    unfold Ideal.div
    rw [if_neg (by exact_mod_cast hpos.ne'), one_mul, EReal.coe_inv]
  simp only [he]
  rw [← coe_sum]
  rw [hd, mul_comm]
  unfold acc
  rw [coe_mul_sum _ _ (inv_nonneg.mpr hpos.le)]
  refine Finset.sum_congr rfl fun k _ => ?_
  rw [← mul_assoc, ← EReal.coe_mul, mul_comm, weight_eq s t M M' hst k]
  congr 1
  unfold Ideal.div
  rw [if_neg (by exact_mod_cast hpos'.ne'), ← EReal.coe_inv, ← EReal.coe_mul, div_eq_mul_inv]

end Cert.Softmax
-- ==== Proof.MlaRow.lean ====
module

public import proofs.«01_k».proof.Proof.MlaBlock
public import proofs.«01_k».proof.Proof.Softmax

@[expose] public section

/-!
  One query row of the attention when every score is real: the running sum that the body carries from block to block is
  the weighted sum over the keys so far, at some real level.
-/

noncomputable section

namespace Cert.Mla

open Cert.Softmax Idealize.ShloMosaic

theorem negInf : Ideal.ofBits .f32 0xFF800000#32 = ⊥ := by simp [Ideal.ofBits, Ideal.ieee]

/-- The largest of a block's real scores is real. -/
theorem top_real {n : ℕ} [NeZero n] (s : Fin n → ℝ) : ∃ M : ℝ, top (fun k => (s k : EReal)) = (M : EReal) := by
  unfold top; rw [negInf]
  haveI : Nonempty (Fin n) := ⟨0⟩
  exact fold_max_real s

theorem two_sub (a b : ℝ) : two ((a : EReal) - (b : EReal)) = ((Real.rpow 2 (a - b) : ℝ) : EReal) := by
  rw [← EReal.coe_sub]; rfl

theorem part_real {n : ℕ} (M : ℝ) (s : Fin n → ℝ) (v : Fin n → EReal) :
    part (M : EReal) (fun k => (s k : EReal)) v = acc M s v := by
  unfold part acc
  exact Finset.sum_congr rfl fun k _ => by rw [two_sub]

/-- The weighted sum over the first `n` keys. -/
def upto (n : ℕ) (M : ℝ) (s : ℕ → ℝ) (v : ℕ → EReal) : EReal := acc M (fun k : Fin n => s k.val) (fun k : Fin n => v k.val)

/-- The first `n + l` keys are the first `n` and the `l` after them. -/
theorem upto_add (n l : ℕ) (M : ℝ) (s : ℕ → ℝ) (v : ℕ → EReal) :
    upto (n + l) M s v = upto n M s v + acc M (fun k : Fin l => s (n + k.val)) (fun k : Fin l => v (n + k.val)) := by
  unfold upto acc
  rw [Fin.sum_univ_add]
  rfl

/-- The context's keys and the first block of the latents'. -/
theorem sum0_real (s : ℕ → ℝ) : ∃ M : ℝ,
    lvl0 (fun k : Fin 256 => (s k.val : EReal)) (fun k : Fin 2048 => (s (256 + k.val) : EReal)) = (M : EReal)
      ∧ ∀ v : ℕ → EReal, sum0 (fun k : Fin 256 => (s k.val : EReal)) (fun k => v k.val)
          (fun k : Fin 2048 => (s (256 + k.val) : EReal)) (fun k => v (256 + k.val)) = upto 2304 M s v := by
  obtain ⟨a, ha⟩ := top_real fun k : Fin 256 => s k.val
  obtain ⟨b, hb⟩ := top_real fun k : Fin 2048 => s (256 + k.val)
  have h : lvl0 (fun k : Fin 256 => (s k.val : EReal)) (fun k : Fin 2048 => (s (256 + k.val) : EReal)) = ((max a b : ℝ) : EReal) := by
    unfold lvl0; rw [ha, hb, coe_max]
  refine ⟨max a b, h, fun v => ?_⟩
  unfold sum0
  rw [h, part_real, part_real, show 2304 = 256 + 2048 from rfl, upto_add]
  rfl

/-- One further block of keys. -/
theorem next_real (n : ℕ) (M : ℝ) (s : ℕ → ℝ) : ∃ M' : ℝ,
    max (M : EReal) (top fun k : Fin 2048 => (s (n + k.val) : EReal)) = (M' : EReal)
      ∧ ∀ v : ℕ → EReal, next (M : EReal) (upto n M s v) (fun k : Fin 2048 => (s (n + k.val) : EReal)) (fun k => v (n + k.val))
          = upto (n + 2048) M' s v := by
  obtain ⟨b, hb⟩ := top_real fun k : Fin 2048 => s (n + k.val)
  have h : max (M : EReal) (top fun k : Fin 2048 => (s (n + k.val) : EReal)) = ((max M b : ℝ) : EReal) := by
    rw [hb, coe_max]
  refine ⟨max M b, h, fun v => ?_⟩
  unfold next
  rw [h, part_real, two_sub, upto_add]
  unfold upto
  rw [acc_rescale]

/-- All the keys: the context's 256 and the latents' four blocks of 2048. -/
def total (sc vc : Fin 256 → EReal) (s0 v0 s1 v1 s2 v2 s3 v3 : Fin 2048 → EReal) : EReal :=
  next (max (max (lvl0 sc s0) (top s1)) (top s2))
    (next (max (lvl0 sc s0) (top s1)) (next (lvl0 sc s0) (sum0 sc vc s0 v0) s1 v1) s2 v2) s3 v3

/-- The running sum at the end, at one real level whatever the values are. -/
theorem total_real (s : ℕ → ℝ) : ∃ M : ℝ, ∀ v : ℕ → EReal,
    total (fun k : Fin 256 => (s k.val : EReal)) (fun k => v k.val)
      (fun k : Fin 2048 => (s (256 + k.val) : EReal)) (fun k => v (256 + k.val))
      (fun k : Fin 2048 => (s (2304 + k.val) : EReal)) (fun k => v (2304 + k.val))
      (fun k : Fin 2048 => (s (4352 + k.val) : EReal)) (fun k => v (4352 + k.val))
      (fun k : Fin 2048 => (s (6400 + k.val) : EReal)) (fun k => v (6400 + k.val)) = upto 8448 M s v := by
  obtain ⟨M0, h0, e0⟩ := sum0_real s
  obtain ⟨M1, h1, e1⟩ := next_real 2304 M0 s
  obtain ⟨M2, h2, e2⟩ := next_real 4352 M1 s
  obtain ⟨M3, h3, e3⟩ := next_real 6400 M2 s
  refine ⟨M3, fun v => ?_⟩
  unfold total
  rw [h0, h1, h2, e0, e1, e2, e3]

/-- The row's result: the running sum over its lane that counts the weights. -/
theorem total_div (s t : ℕ → ℝ) (v : ℕ → EReal) (M' : ℝ) (hst : ∀ k, s k * Real.log 2 = t k) :
    total (fun k : Fin 256 => (s k.val : EReal)) (fun k => v k.val)
      (fun k : Fin 2048 => (s (256 + k.val) : EReal)) (fun k => v (256 + k.val))
      (fun k : Fin 2048 => (s (2304 + k.val) : EReal)) (fun k => v (2304 + k.val))
      (fun k : Fin 2048 => (s (4352 + k.val) : EReal)) (fun k => v (4352 + k.val))
      (fun k : Fin 2048 => (s (6400 + k.val) : EReal)) (fun k => v (6400 + k.val))
    * Ideal.div 1 (total (fun k : Fin 256 => (s k.val : EReal)) (fun _ => 1)
      (fun k : Fin 2048 => (s (256 + k.val) : EReal)) (fun _ => 1)
      (fun k : Fin 2048 => (s (2304 + k.val) : EReal)) (fun _ => 1)
      (fun k : Fin 2048 => (s (4352 + k.val) : EReal)) (fun _ => 1)
      (fun k : Fin 2048 => (s (6400 + k.val) : EReal)) (fun _ => 1))
    = ∑ k : Fin 8448, v k.val * Ideal.div (Ideal.exp ((t k.val : EReal) - (M' : EReal)))
        (∑ j : Fin 8448, Ideal.exp ((t j.val : EReal) - (M' : EReal))) := by
  obtain ⟨M, h⟩ := total_real s
  have h1 := h fun _ => 1
  have hv := h v
  rw [hv, h1]
  unfold upto
  haveI : Nonempty (Fin 8448) := ⟨0⟩
  exact acc_div (fun k : Fin 8448 => s k.val) (fun k : Fin 8448 => t k.val) (fun k : Fin 8448 => v k.val) M M' fun k => hst k.val

end Cert.Mla
-- ==== Proof.MlaArray.lean ====
module

public import proofs.«01_k».proof.Proof.MlaRow
public import proofs.«01_k».proof.Proof.Gen.KernelIdeal.Value
public import Idealize.ShloMosaic.Lib.Pipeline.ValueKit

@[expose] public section

set_option maxRecDepth 16384

/-!
  What the attention's result array holds: at each query, head and lane the running sum over all keys divided by the
  running sum's lane 64.
-/

noncomputable section

namespace Cert.Mla

open Cert.KernelIdeal Cert.KernelIdeal.Gen Cert.KernelIdeal.Value Idealize.ShloMosaic Idealize.ShloMosaic.TcCoe Idealize.SL.Sem

/-- One block's payload at a query and a lane. -/
theorem tower_apply (b0 : Vec Ideal S1x1024x128 .bf16) (b1 b2 : Vec Ideal S1x256x128 .bf16)
    (k0 v0 k1 v1 k2 v2 k3 v3 : Vec Ideal S1x2048x128 .bf16) (z : Fin 1) (r : Fin 1024) (d : Fin 128) :
    k0_pay1 (k0_pay2 b0) (k0_pay10 (k0_pay2 b0) (k0_pay5 b0 b1 k0) k1 k2) (k0_pay11 (k0_pay2 b0) (k0_pay5 b0 b1 k0) k1 k2)
        (k0_pay12 (k0_pay2 b0) (k0_pay5 b0 b1 k0) (k0_pay6 b0 b1 b2 k0 v0) k1 v1 k2) (k0_pay13 v2)
        (constant S1024x128 .f32 0x00000000#32) k3 v3 (ix3 z r d)
      = total (scores (row b0 r) b1) (lane b2 d) (scores (row b0 r) k0) (lane v0 d) (scores (row b0 r) k1) (lane v1 d)
          (scores (row b0 r) k2) (lane v2 d) (scores (row b0 r) k3) (lane v3 d)
        * Ideal.div 1 (total (scores (row b0 r) b1) (lane b2 64) (scores (row b0 r) k0) (lane v0 64)
          (scores (row b0 r) k1) (lane v1 64) (scores (row b0 r) k2) (lane v2 64) (scores (row b0 r) k3) (lane v3 64)) := by
  obtain rfl : z = 0 := Subsingleton.elim _ _
  rw [pay1_apply, pay10_apply, pay12_apply, pay12_apply, pay5_apply, pay6_apply, pay6_apply]
  simp only [pay11_apply, pay5_apply]
  rfl

/-- A head's row of an array of queries or keys. -/
def headRow {n : ℕ} (x : FVec Ideal ⟨3, ![4, n, 512]⟩ .bf16) (b h : Fin 4) (r : Fin n) : Fin 128 → EReal :=
  fun e => x (ix3 b r ⟨h.val * 128 + e.val, by omega⟩)

/-- A head's lane of `l` consecutive rows, from row `n0` on, of an array of values. -/
def headLane {n : ℕ} (x : FVec Ideal ⟨3, ![4, n, 512]⟩ .bf16) (b h : Fin 4) (d : Fin 128) (n0 : ℕ) {l : ℕ} (hl : n0 + l ≤ n) : Fin l → EReal :=
  fun k => x (ix3 b ⟨n0 + k.val, by omega⟩ ⟨h.val * 128 + d.val, by omega⟩)

/-- A query's scores against `l` consecutive keys of its head, from row `n0` on. -/
def headScores {n : ℕ} (q : Fin 128 → EReal) (x : FVec Ideal ⟨3, ![4, n, 512]⟩ .bf16) (b h : Fin 4) (n0 : ℕ) {l : ℕ} (hl : n0 + l ≤ n) : Fin l → EReal :=
  fun k => score q (headRow x b h ⟨n0 + k.val, by omega⟩)

/-- The running sum over all keys at a query and a lane. -/
def entrySum (x0 : FVec Ideal S4x8192x512 .bf16) (x1 x2 : FVec Ideal S4x256x512 .bf16) (x3 x4 : FVec Ideal S4x8192x512 .bf16)
    (b h : Fin 4) (r : Fin 8192) (d : Fin 128) : EReal :=
  total (headScores (headRow x0 b h r) x1 b h 0 (l := 256) (by norm_num)) (headLane x2 b h d 0 (by norm_num))
    (headScores (headRow x0 b h r) x3 b h 0 (by norm_num)) (headLane x4 b h d 0 (by norm_num))
    (headScores (headRow x0 b h r) x3 b h 2048 (by norm_num)) (headLane x4 b h d 2048 (by norm_num))
    (headScores (headRow x0 b h r) x3 b h 4096 (by norm_num)) (headLane x4 b h d 4096 (by norm_num))
    (headScores (headRow x0 b h r) x3 b h 6144 (by norm_num)) (headLane x4 b h d 6144 (by norm_num))

variable (m : (ℓ : Loc nD τ sig) → Buf (Elt Ideal) ℓ)

theorem index0 : ∀ t : Fin cfg0.N, win0_0.index t = ![(grid0.coords t 0).val, (grid0.coords t 2).val, (grid0.coords t 1).val] :=
  (by decide +kernel : ∀ t : Fin grid0.N, _)
theorem index1 : ∀ t : Fin cfg0.N, win0_1.index t = ![(grid0.coords t 0).val, 0, (grid0.coords t 1).val] :=
  (by decide +kernel : ∀ t : Fin grid0.N, _)
theorem index2 : ∀ t : Fin cfg0.N, win0_2.index t = ![(grid0.coords t 0).val, 0, (grid0.coords t 1).val] :=
  (by decide +kernel : ∀ t : Fin grid0.N, _)
theorem index3 : ∀ t : Fin cfg0.N, win0_3.index t = ![(grid0.coords t 0).val, 0, (grid0.coords t 1).val] :=
  (by decide +kernel : ∀ t : Fin grid0.N, _)
theorem index4 : ∀ t : Fin cfg0.N, win0_4.index t = ![(grid0.coords t 0).val, 0, (grid0.coords t 1).val] :=
  (by decide +kernel : ∀ t : Fin grid0.N, _)
theorem index5 : ∀ t : Fin cfg0.N, win0_5.index t = ![(grid0.coords t 0).val, (grid0.coords t 2).val, (grid0.coords t 1).val] :=
  (by decide +kernel : ∀ t : Fin grid0.N, _)

theorem q_block (c : Dev nD) (t : Fin cfg0.N) (r : Fin 1024) :
    row (iblk m c 0 t) r = headRow (m ((c : Thread nD τ).loc main_arg0)) (grid0.coords t 0) (grid0.coords t 1)
      ⟨(grid0.coords t 2).val * 1024 + r.val, by have := (grid0.coords t 2).isLt; simp at this; omega⟩ := by
  funext e
  unfold row headRow
  blk_simp [iblk]
  rw [V_main_arg0]
  exact congrArg _ (by blk_ext [index0])

theorem kc_block (c : Dev nD) (t : Fin cfg0.N) (q : Fin 128 → EReal) :
    scores q (iblk m c 1 t) = headScores q (m ((c : Thread nD τ).loc main_arg1)) (grid0.coords t 0) (grid0.coords t 1) 0 (by norm_num) := by
  funext k
  unfold scores headScores
  congr 1
  funext e
  unfold row headRow
  blk_simp [iblk]
  rw [V_main_arg1]
  exact congrArg _ (by blk_ext [index1])

theorem vc_block (c : Dev nD) (t : Fin cfg0.N) (d : Fin 128) :
    lane (iblk m c 2 t) d = headLane (m ((c : Thread nD τ).loc main_arg2)) (grid0.coords t 0) (grid0.coords t 1) d 0 (by norm_num) := by
  funext k
  unfold lane headLane
  blk_simp [iblk]
  rw [V_main_arg2]
  exact congrArg _ (by blk_ext [index2])

theorem ks_block (c : Dev nD) (t : Fin cfg0.N) (q : Fin 128 → EReal) (n0 : ℕ) (hn : n0 + 2048 ≤ 8192)
    (fit : ∀ a, (![0, n0, 0] : Fin 3 → ℕ) a + (![1, 2048, 128] : Fin 3 → ℕ) a ≤ S1x8192x128.size a) :
    scores q (View.ld (iblk m c 3 t) (Rect.unit ![0, n0, 0] ![1, 2048, 128] fit))
      = headScores q (m ((c : Thread nD τ).loc main_arg3)) (grid0.coords t 0) (grid0.coords t 1) n0 hn := by
  funext k
  unfold scores headScores
  congr 1
  funext e
  unfold row headRow
  rw [View.ld_unit_apply_of _ (i := ix3 0 ⟨n0 + k.val, by omega⟩ e) (hi := fun a => by fin_cases a <;> simp [ix3])]
  blk_simp [iblk]
  rw [V_main_arg3]
  exact congrArg _ (by blk_ext [index3])

theorem vs_block (c : Dev nD) (t : Fin cfg0.N) (d : Fin 128) (n0 : ℕ) (hn : n0 + 2048 ≤ 8192)
    (fit : ∀ a, (![0, n0, 0] : Fin 3 → ℕ) a + (![1, 2048, 128] : Fin 3 → ℕ) a ≤ S1x8192x128.size a) :
    lane (View.ld (iblk m c 4 t) (Rect.unit ![0, n0, 0] ![1, 2048, 128] fit)) d
      = headLane (m ((c : Thread nD τ).loc main_arg4)) (grid0.coords t 0) (grid0.coords t 1) d n0 hn := by
  funext k
  unfold lane headLane
  rw [View.ld_unit_apply_of _ (i := ix3 0 ⟨n0 + k.val, by omega⟩ d) (hi := fun a => by fin_cases a <;> simp [ix3])]
  blk_simp [iblk]
  rw [V_main_arg4]
  exact congrArg _ (by blk_ext [index4])

/-- The running sum of a block's row is that of the query it holds. -/
theorem sum_blocks (c : Dev nD) (t : Fin cfg0.N) (r : Fin 1024) (d : Fin 128)
    (f0 : ∀ a, (![0, 0, 0] : Fin 3 → ℕ) a + (![1, 2048, 128] : Fin 3 → ℕ) a ≤ S1x8192x128.size a)
    (f1 : ∀ a, (![0, 2048, 0] : Fin 3 → ℕ) a + (![1, 2048, 128] : Fin 3 → ℕ) a ≤ S1x8192x128.size a)
    (f2 : ∀ a, (![0, 4096, 0] : Fin 3 → ℕ) a + (![1, 2048, 128] : Fin 3 → ℕ) a ≤ S1x8192x128.size a)
    (f3 : ∀ a, (![0, 6144, 0] : Fin 3 → ℕ) a + (![1, 2048, 128] : Fin 3 → ℕ) a ≤ S1x8192x128.size a) :
    total (scores (row (iblk m c 0 t) r) (iblk m c 1 t)) (lane (iblk m c 2 t) d)
      (scores (row (iblk m c 0 t) r) (View.ld (iblk m c 3 t) (Rect.unit ![0, 0, 0] ![1, 2048, 128] f0)))
      (lane (View.ld (iblk m c 4 t) (Rect.unit ![0, 0, 0] ![1, 2048, 128] f0)) d)
      (scores (row (iblk m c 0 t) r) (View.ld (iblk m c 3 t) (Rect.unit ![0, 2048, 0] ![1, 2048, 128] f1)))
      (lane (View.ld (iblk m c 4 t) (Rect.unit ![0, 2048, 0] ![1, 2048, 128] f1)) d)
      (scores (row (iblk m c 0 t) r) (View.ld (iblk m c 3 t) (Rect.unit ![0, 4096, 0] ![1, 2048, 128] f2)))
      (lane (View.ld (iblk m c 4 t) (Rect.unit ![0, 4096, 0] ![1, 2048, 128] f2)) d)
      (scores (row (iblk m c 0 t) r) (View.ld (iblk m c 3 t) (Rect.unit ![0, 6144, 0] ![1, 2048, 128] f3)))
      (lane (View.ld (iblk m c 4 t) (Rect.unit ![0, 6144, 0] ![1, 2048, 128] f3)) d)
      = entrySum (m ((c : Thread nD τ).loc main_arg0)) (m ((c : Thread nD τ).loc main_arg1)) (m ((c : Thread nD τ).loc main_arg2))
          (m ((c : Thread nD τ).loc main_arg3)) (m ((c : Thread nD τ).loc main_arg4)) (grid0.coords t 0) (grid0.coords t 1)
          ⟨(grid0.coords t 2).val * 1024 + r.val, by have := (grid0.coords t 2).isLt; simp at this; omega⟩ d := by
  unfold entrySum
  rw [q_block, kc_block, vc_block, ks_block m c t _ 0 (by norm_num), ks_block m c t _ 2048 (by norm_num),
    ks_block m c t _ 4096 (by norm_num), ks_block m c t _ 6144 (by norm_num), vs_block m c t d 0 (by norm_num),
    vs_block m c t d 2048 (by norm_num), vs_block m c t d 4096 (by norm_num), vs_block m c t d 6144 (by norm_num)]

/-- The result array is the array whose entry at a query and a lane of a head is the running sum over its lane 64. -/
theorem array_eq (c : Dev nD) (G : FVec Ideal S4x8192x512 .bf16)
    (hG : ∀ (b h : Fin 4) (r : Fin 8192) (d : Fin 128), G (ix3 b r ⟨h.val * 128 + d.val, by omega⟩)
      = entrySum (m ((c : Thread nD τ).loc main_arg0)) (m ((c : Thread nD τ).loc main_arg1)) (m ((c : Thread nD τ).loc main_arg2))
          (m ((c : Thread nD τ).loc main_arg3)) (m ((c : Thread nD τ).loc main_arg4)) b h r d
        * Ideal.div 1 (entrySum (m ((c : Thread nD τ).loc main_arg0)) (m ((c : Thread nD τ).loc main_arg1)) (m ((c : Thread nD τ).loc main_arg2))
          (m ((c : Thread nD τ).loc main_arg3)) (m ((c : Thread nD τ).loc main_arg4)) b h r 64)) :
    (dats m 0 c).arrAt 5 cfg0.N = G := by
  refine (dats m 0 c).arrAt_eq_of_covers 5 G (by decide +kernel) fun t hf y => ?_
  blk_simp
  rw [after0_5]
  unfold outsAt0
  frame_out
  obtain ⟨z, r, d, rfl⟩ : ∃ (z : Fin 1) (r : Fin 1024) (d : Fin 128), y = ix3 z r d := ⟨y 0, y 1, y 2, eq_ix3 y⟩
  refine (tower_apply _ _ _ _ _ _ _ _ _ _ _ z r d).trans ?_
  have hi : ((View.whole main_v0).slice (win0_5.rect t)).emb (ix3 z r d)
      = ix3 (grid0.coords t 0) ⟨(grid0.coords t 2).val * 1024 + r.val, by have := (grid0.coords t 2).isLt; simp at this; omega⟩
          ⟨(grid0.coords t 1).val * 128 + d.val, by have := (grid0.coords t 1).isLt; simp at this; omega⟩ := by
    blk_ext [index5]
  refine Eq.trans ?_ ((congrArg G hi).trans (hG (grid0.coords t 0) (grid0.coords t 1) _ d)).symm
  exact congrArg₂ (fun a b => a * Ideal.div 1 b) (sum_blocks m c t r d _ _ _ _) (sum_blocks m c t r 64 _ _ _ _)

end Cert.Mla
-- ==== Proof.MlaRef.lean ====
module

public import proofs.«01_k».proof.Proof.Gen.ReferenceIdeal.Read
public import Idealize.ShloMosaic.Lib.Pointwise

@[expose] public section

set_option maxRecDepth 16384

/-!
  What the attention's reference computes: its result at one query and one lane, as the softmax of the query's scores
  applied to the keys' values.
-/

noncomputable section

namespace Cert.MlaRef

open Cert.ReferenceIdeal Cert.ReferenceIdeal.Gen Cert.ReferenceIdeal.Read Idealize.ShloMosaic

variable (x0 : FVec Ideal S4x8192x512 .bf16) (x1 x2 : FVec Ideal S4x256x512 .bf16) (x3 x4 : FVec Ideal S4x8192x512 .bf16)

/-- Entry `d` of head `h` of key `n` of batch `b`: the context's keys first, then the latents'. -/
def joined (y : FVec Ideal S4x256x512 .bf16) (z : FVec Ideal S4x8192x512 .bf16) (b h : Fin 4) (d : Fin 128) (n : Fin 8448) : EReal :=
  if hn : n.val < 256 then y (ix3 b ⟨n.val, hn⟩ ⟨h.val * 128 + d.val, by omega⟩)
  else z (ix3 b ⟨n.val - 256, by omega⟩ ⟨h.val * 128 + d.val, by omega⟩)

/-- A query's score against key `n`: their inner product divided by the root of the width. -/
def score (b h : Fin 4) (r : Fin 8192) (n : Fin 8448) : EReal :=
  Ideal.div (∑ d : Fin 128, x0 (ix3 b r ⟨h.val * 128 + d.val, by omega⟩) * joined x1 x3 b h d n)
    (Ideal.sqrt (Ideal.ofBits .f32 0x42C00000#32))

/-- The level the reference takes off a query's scores. -/
def level (b h : Fin 4) (r : Fin 8192) : EReal :=
  max (Ideal.ofBits .f32 0xFF800000#32) (Finset.univ.fold max (Ideal.ofBits .f32 0xFF800000#32) fun n => score x0 x1 x3 b h r n)

theorem keys_apply (b : Fin 4) (k : Fin 8448) (h : Fin 4) (d : Fin 128) :
    val_main_v6 (F := Ideal) x1 x3 (ix4 b k h d) = joined x1 x3 b h d k := by
  unfold joined
  pointwise [val_main_v6, val_main_v5, val_main_v4, val_main_v3, val_main_v2]

theorem vals_apply (b : Fin 4) (k : Fin 8448) (h : Fin 4) (d : Fin 128) :
    val_main_v11 (F := Ideal) x2 x4 (ix4 b k h d) = joined x2 x4 b h d k := by
  unfold joined
  pointwise [val_main_v11, val_main_v10, val_main_v9, val_main_v8, val_main_v7]

theorem scores_apply (b : Fin 4) (h : Fin 4) (r : Fin 8192) (k : Fin 8448) :
    val_main_v15 (F := Ideal) x0 x1 x3 (ix4 b h r k) = score x0 x1 x3 b h r k := by
  unfold score
  simp only [← keys_apply]
  unfold val_main_v15 val_main_v14 val_main_v13 val_main_cst val_main_v12 val_main_v1 val_main_v0
  generalize val_main_v6 (F := Ideal) x1 x3 = y
  pointwise

/-- The largest entry along the last axis. -/
theorem rowmax (y : FVec Ideal S4x4x8192x8448 .f32) (b : Fin 4) (h : Fin 4) (r : Fin 8192) :
    Host.reduce (FloatOps.maximumf (F := Ideal) (φ := .f32)) y (val_main_cst_0 (F := Ideal)) reducesTo_S4x4x8192x8448_S4x4x8192_d3 h_S_ (ix3 b h r)
      = Finset.univ.fold max (Ideal.ofBits .f32 0xFF800000#32) fun n => y (ix4 b h r n) := by
  unfold val_main_cst_0
  pointwise

theorem level_apply (b : Fin 4) (h : Fin 4) (r : Fin 8192) :
    val_main_v18 (F := Ideal) x0 x1 x3 (ix3 b h r) = level x0 x1 x3 b h r := by
  have e : val_main_v17 (F := Ideal) (ix3 b h r) = Ideal.ofBits .f32 0xFF800000#32 := rfl
  rw [val_main_v18_apply, Ideal.maximumf_def, e]
  unfold val_main_v16 level
  rw [rowmax]
  simp only [scores_apply]

theorem weights_apply (b : Fin 4) (h : Fin 4) (r : Fin 8192) (k : Fin 8448) :
    val_main_v26 (F := Ideal) x0 x1 x3 (ix4 b h r k)
      = Ideal.div (Ideal.exp (score x0 x1 x3 b h r k - level x0 x1 x3 b h r))
          (∑ n, Ideal.exp (score x0 x1 x3 b h r n - level x0 x1 x3 b h r)) := by
  simp only [← scores_apply, ← level_apply]
  unfold val_main_v26 val_main_v25 val_main_v24 val_main_v23 val_main_v22 val_main_v21 val_main_v20 val_main_v19 val_main_cst_2
  generalize val_main_v15 (F := Ideal) x0 x1 x3 = y
  generalize val_main_v18 (F := Ideal) x0 x1 x3 = z
  pointwise

theorem result_apply (b : Fin 4) (h : Fin 4) (r : Fin 8192) (d : Fin 128) :
    val_main_v30 (F := Ideal) x0 x1 x2 x3 x4 (ix3 b r ⟨h.val * 128 + d.val, by omega⟩)
      = ∑ k, joined x2 x4 b h d k * Ideal.div (Ideal.exp (score x0 x1 x3 b h r k - level x0 x1 x3 b h r))
          (∑ n, Ideal.exp (score x0 x1 x3 b h r n - level x0 x1 x3 b h r)) := by
  simp only [← weights_apply, ← vals_apply]
  unfold val_main_v30 val_main_v29 val_main_v28 val_main_v27
  generalize val_main_v26 (F := Ideal) x0 x1 x3 = y
  generalize val_main_v11 (F := Ideal) x2 x4 = z
  pointwise

end Cert.MlaRef
-- ==== Proof.MlaEq.lean ====
module

public import proofs.«01_k».proof.Proof.MlaArray
public import proofs.«01_k».proof.Proof.MlaRef

@[expose] public section

set_option maxRecDepth 16384

/-!
  The attention's two forms are equal when queries and keys are real and lane 64 of the values counts the keys.
-/

noncomputable section

namespace Cert.MlaEq

open Cert.Softmax Cert.Mla Idealize.ShloMosaic
open Cert.KernelIdeal (S4x8192x512 S4x256x512)
open Cert.MlaRef (joined)

/-- The scale the kernel multiplies its queries by. -/
def scale : ℝ := (Real.sqrt 96)⁻¹ * (Real.log 2)⁻¹

theorem scale_named : Named.named (F := Ideal) (φ := .f32) Cert.KernelIdeal.κ "scale_log2e" 0x3E16C740#32 = (scale : EReal) :=
  IdealRules.named_const.ideal_named_scalar _ _ _ _ rfl

theorem root : Ideal.sqrt (Ideal.ofBits .f32 0x42C00000#32) = ((Real.sqrt 96 : ℝ) : EReal) := by
  have e : Ideal.ofBits .f32 0x42C00000#32 = ((96 : ℝ) : EReal) := by
    simp [Ideal.ofBits, Ideal.ieee, -EReal.coe_mul]; norm_num
  rw [e]; exact if_neg (by norm_num)

/-- A score over the logarithm of two, in the reals. -/
def lscore (q k : Fin 128 → ℝ) : ℝ := ∑ d, q d * scale * k d

/-- A score in the reals. -/
def rscore (q k : Fin 128 → ℝ) : ℝ := (∑ d, q d * k d) / Real.sqrt 96

theorem lscore_log (q k : Fin 128 → ℝ) : lscore q k * Real.log 2 = rscore q k := by
  unfold lscore rscore scale
  have h2 : Real.log 2 ≠ 0 := (Real.log_pos (by norm_num)).ne'
  rw [Finset.sum_mul, Finset.sum_div]
  refine Finset.sum_congr rfl fun d _ => ?_
  field_simp

theorem score_real (q k : Fin 128 → ℝ) : score (fun d => (q d : EReal)) (fun d => (k d : EReal)) = (lscore q k : EReal) := by
  unfold score lscore
  rw [scale_named, coe_sum]
  exact Finset.sum_congr rfl fun d _ => by rw [EReal.coe_mul, EReal.coe_mul]

theorem quot_real (q k : Fin 128 → ℝ) :
    Ideal.div (∑ d, (q d : EReal) * (k d : EReal)) (Ideal.sqrt (Ideal.ofBits .f32 0x42C00000#32)) = (rscore q k : EReal) := by
  have e : (∑ d, (q d : EReal) * (k d : EReal)) = ((∑ d, q d * k d : ℝ) : EReal) := by
    rw [coe_sum]; exact Finset.sum_congr rfl fun d _ => (EReal.coe_mul _ _).symm
  have h0 : Real.sqrt 96 ≠ 0 := by positivity
  rw [root, e]
  unfold Ideal.div rscore
  rw [if_neg (by exact_mod_cast h0), ← EReal.coe_inv, ← EReal.coe_mul, div_eq_mul_inv]

section Row

variable (x0 : FVec Ideal S4x8192x512 .bf16) (x1 x2 : FVec Ideal S4x256x512 .bf16) (x3 x4 : FVec Ideal S4x8192x512 .bf16)

/-- Entry `d` of key `n`, for every natural number. -/
def entry (y : FVec Ideal S4x256x512 .bf16) (z : FVec Ideal S4x8192x512 .bf16) (b h : Fin 4) (d : Fin 128) (n : ℕ) : EReal :=
  if hn : n < 8448 then joined y z b h d ⟨n, hn⟩ else 0

theorem entry_fin (y : FVec Ideal S4x256x512 .bf16) (z : FVec Ideal S4x8192x512 .bf16) (b h : Fin 4) (d : Fin 128) (n : Fin 8448) :
    entry y z b h d n.val = joined y z b h d n := dif_pos n.isLt

theorem entry_ctx (y : FVec Ideal S4x256x512 .bf16) (z : FVec Ideal S4x8192x512 .bf16) (b h : Fin 4) (d : Fin 128) (k : Fin 256)
    (hk : 0 + k.val < 256) :
    y (ix3 b ⟨0 + k.val, hk⟩ ⟨h.val * 128 + d.val, by omega⟩) = entry y z b h d k.val := by
  unfold entry joined
  rw [dif_pos (by omega), dif_pos (by simpa using k.isLt)]
  congr 2
  exact Fin.ext (Nat.zero_add _)

theorem entry_lat (y : FVec Ideal S4x256x512 .bf16) (z : FVec Ideal S4x8192x512 .bf16) (b h : Fin 4) (d : Fin 128) (n0 n1 : ℕ)
    (hn : 256 + n0 = n1) (k : Fin 2048) (hk : n0 + k.val < 8192) :
    z (ix3 b ⟨n0 + k.val, hk⟩ ⟨h.val * 128 + d.val, by omega⟩) = entry y z b h d (n1 + k.val) := by
  unfold entry joined
  rw [dif_pos (by omega), dif_neg (by show ¬ n1 + k.val < 256; omega)]
  congr 2
  exact Fin.ext (by show n0 + k.val = n1 + k.val - 256; omega)

variable (b h : Fin 4) (r : Fin 8192)

/-- The query, in the reals. -/
def qr : Fin 128 → ℝ := fun e => (headRow x0 b h r e).toReal

/-- Key `n`, in the reals. -/
def kr (n : ℕ) : Fin 128 → ℝ := fun e => (entry x1 x3 b h e n).toReal

variable (h0 : ∀ i, ∃ a : ℝ, x0 i = (a : EReal)) (h1 : ∀ i, ∃ a : ℝ, x1 i = (a : EReal)) (h3 : ∀ i, ∃ a : ℝ, x3 i = (a : EReal))

include h0 in
theorem qr_coe (e : Fin 128) : headRow x0 b h r e = (qr x0 b h r e : EReal) := by
  obtain ⟨a, ha⟩ := h0 (ix3 b r ⟨h.val * 128 + e.val, by omega⟩)
  unfold qr headRow
  rw [ha, EReal.toReal_coe]

include h1 h3 in
theorem kr_coe (n : ℕ) (e : Fin 128) : entry x1 x3 b h e n = (kr x1 x3 b h n e : EReal) := by
  have : ∃ a : ℝ, entry x1 x3 b h e n = (a : EReal) := by
    unfold entry joined
    split_ifs
    · exact h1 _
    · exact h3 _
    · exact ⟨0, rfl⟩
  obtain ⟨a, ha⟩ := this
  unfold kr
  rw [ha, EReal.toReal_coe]

include h0 h1 h3 in
theorem scores_ctx (hl : 0 + 256 ≤ 256) :
    headScores (headRow x0 b h r) x1 b h 0 hl = fun k : Fin 256 => (lscore (qr x0 b h r) (kr x1 x3 b h k.val) : EReal) := by
  funext k
  unfold headScores
  rw [← score_real, funext fun e => (qr_coe x0 b h r h0 e)]
  congr 1
  funext e
  rw [← kr_coe x1 x3 b h h1 h3, ← entry_ctx x1 x3 b h e k (by omega)]
  rfl

include h0 h1 h3 in
theorem scores_lat (n0 n1 : ℕ) (hn : 256 + n0 = n1) (hl : n0 + 2048 ≤ 8192) :
    headScores (headRow x0 b h r) x3 b h n0 hl
      = fun k : Fin 2048 => (lscore (qr x0 b h r) (kr x1 x3 b h (n1 + k.val)) : EReal) := by
  funext k
  unfold headScores
  rw [← score_real, funext fun e => (qr_coe x0 b h r h0 e)]
  congr 1
  funext e
  rw [← kr_coe x1 x3 b h h1 h3, ← entry_lat x1 x3 b h e n0 n1 hn k (by omega)]
  rfl

theorem lane_ctx (d : Fin 128) (hl : 0 + 256 ≤ 256) :
    headLane x2 b h d 0 hl = fun k : Fin 256 => entry x2 x4 b h d k.val :=
  funext fun k => entry_ctx x2 x4 b h d k (by omega)

theorem lane_lat (d : Fin 128) (n0 n1 : ℕ) (hn : 256 + n0 = n1) (hl : n0 + 2048 ≤ 8192) :
    headLane x4 b h d n0 hl = fun k : Fin 2048 => entry x2 x4 b h d (n1 + k.val) :=
  funext fun k => entry_lat x2 x4 b h d n0 n1 hn k (by omega)

include h0 h1 h3 in
theorem ref_score (n : Fin 8448) :
    MlaRef.score x0 x1 x3 b h r n = (rscore (qr x0 b h r) (kr x1 x3 b h n.val) : EReal) := by
  unfold MlaRef.score
  rw [← quot_real]
  congr 1
  refine Finset.sum_congr rfl fun d _ => ?_
  rw [← kr_coe x1 x3 b h h1 h3, entry_fin, ← qr_coe x0 b h r h0]
  rfl

include h0 h1 h3 in
theorem ref_level : ∃ M : ℝ, MlaRef.level x0 x1 x3 b h r = (M : EReal) := by
  haveI : Nonempty (Fin 8448) := ⟨0⟩
  obtain ⟨M, hM⟩ := fold_max_real fun n : Fin 8448 => rscore (qr x0 b h r) (kr x1 x3 b h n.val)
  refine ⟨M, ?_⟩
  unfold MlaRef.level
  rw [negInf, funext fun n => ref_score x0 x1 x3 b h r h0 h1 h3 n, hM]
  exact max_eq_right bot_le

include h0 h1 h3 in
/-- The array's entry is the reference's. -/
theorem result_eq (h2 : ∀ (b : Fin 4) (k : Fin 256) (e : Fin 4), x2 (ix3 b k ⟨e.val * 128 + 64, by omega⟩) = 1)
  (h4 : ∀ (b : Fin 4) (k : Fin 8192) (e : Fin 4), x4 (ix3 b k ⟨e.val * 128 + 64, by omega⟩) = 1)
  (d : Fin 128) :
    Cert.ReferenceIdeal.Read.val_main_v30 (F := Ideal) x0 x1 x2 x3 x4 (ix3 b r ⟨h.val * 128 + d.val, by omega⟩)
      = entrySum x0 x1 x2 x3 x4 b h r d * Ideal.div 1 (entrySum x0 x1 x2 x3 x4 b h r 64) := by
  rw [MlaRef.result_apply]
  obtain ⟨M, hM⟩ := ref_level x0 x1 x3 b h r h0 h1 h3
  have l2 : ∀ hl, headLane x2 b h 64 0 hl = fun _ : Fin 256 => 1 := fun hl => funext fun k => h2 b _ h
  have l4 : ∀ n0 hl, headLane x4 b h 64 n0 hl = fun _ : Fin 2048 => 1 := fun n0 hl => funext fun k => h4 b _ h
  have e := total_div (fun n => lscore (qr x0 b h r) (kr x1 x3 b h n)) (fun n => rscore (qr x0 b h r) (kr x1 x3 b h n))
    (entry x2 x4 b h d) M fun n => lscore_log _ _
  unfold entrySum
  rw [scores_ctx x0 x1 x3 b h r h0 h1 h3, scores_lat x0 x1 x3 b h r h0 h1 h3 0 256 rfl,
    scores_lat x0 x1 x3 b h r h0 h1 h3 2048 2304 rfl, scores_lat x0 x1 x3 b h r h0 h1 h3 4096 4352 rfl,
    scores_lat x0 x1 x3 b h r h0 h1 h3 6144 6400 rfl, l2, l4, l4, l4, l4,
    lane_ctx x2 x4 b h d, lane_lat x2 x4 b h d 0 256 rfl, lane_lat x2 x4 b h d 2048 2304 rfl,
    lane_lat x2 x4 b h d 4096 4352 rfl, lane_lat x2 x4 b h d 6144 6400 rfl]
  refine Eq.trans ?_ e.symm
  simp only [hM, ref_score x0 x1 x3 b h r h0 h1 h3, entry_fin]

end Row

end Cert.MlaEq
-- ==== Proof.MlaPre.lean ====
module

public import proofs.«01_k».proof.Defs
public import proofs.«01_k».proof.Proof.Gen.Pre_finite_ones_lane
public import Idealize.ShloMosaic.Lib.Pointwise

@[expose] public section

set_option maxRecDepth 16384

/-!
  What the attention's precondition says at coordinates: queries and keys are real, and lane 64 of each head's values is one.
-/

noncomputable section

namespace Cert.MlaPre

open Cert.Pre_finite_ones_lane Cert.Pre_finite_ones_lane.Gen Idealize.ShloMosaic

variable (x0 : FVec Ideal S4x8192x512 .bf16) (x1 x2 : FVec Ideal S4x256x512 .bf16) (x3 x4 : FVec Ideal S4x8192x512 .bf16)

/-- An extended real whose absolute value is below the pattern of infinity is a real. -/
theorem real_of_lt (x : EReal) (h : FloatOps.cmpf (F := Ideal) (φ := .f32) .olt (max x (-x)) (Ideal.ofBits .f32 0x7F800000#32) = 1#1) :
    ∃ a : ℝ, x = (a : EReal) := by
  have e : Ideal.ofBits .f32 0x7F800000#32 = ⊤ := by simp [Ideal.ofBits, Ideal.ieee]
  rw [e] at h
  have hlt : max x (-x) < ⊤ := by
    by_contra hn
    have : FloatOps.cmpf (F := Ideal) (φ := .f32) .olt (max x (-x)) ⊤ = 0#1 := by
      show BitVec.ofBool (decide _) = _
      rw [decide_eq_false hn]; rfl
    rw [this] at h
    exact absurd h (by decide)
  have h1 : x ≠ ⊤ := fun hx => by simp [hx] at hlt
  have h2 : x ≠ ⊥ := fun hx => by simp [hx] at hlt
  exact ⟨x.toReal, (EReal.coe_toReal h1 h2).symm⟩

/-- An extended real that compares equal to the pattern of one is one. -/
theorem one_of_eq (x : EReal) (h : FloatOps.cmpf (F := Ideal) (φ := .f32) .oeq x (Ideal.ofBits .f32 0x3F800000#32) = 1#1) : x = 1 := by
  have e : Ideal.ofBits .f32 0x3F800000#32 = 1 := by simp [Ideal.ofBits, Ideal.ieee, -EReal.coe_mul]; norm_num
  rw [e] at h
  by_contra hn
  have : FloatOps.cmpf (F := Ideal) (φ := .f32) .oeq x 1 = 0#1 := by
    show BitVec.ofBool (decide _) = _
    rw [decide_eq_false hn]; rfl
  rw [this] at h
  exact absurd h (by decide)

theorem queries (h : (fn (F := Ideal) x0 x1 x2 x3 x4).1 = fun _ => 1#1) (i : S4x8192x512.Idx) : ∃ a : ℝ, x0 i = (a : EReal) :=
  real_of_lt _ (congrFun h i)

theorem ctxKeys (h : (fn (F := Ideal) x0 x1 x2 x3 x4).2.1 = fun _ => 1#1) (i : S4x256x512.Idx) : ∃ a : ℝ, x1 i = (a : EReal) :=
  real_of_lt _ (congrFun h i)

theorem keys (h : (fn (F := Ideal) x0 x1 x2 x3 x4).2.2.1 = fun _ => 1#1) (i : S4x8192x512.Idx) : ∃ a : ℝ, x3 i = (a : EReal) :=
  real_of_lt _ (congrFun h i)

theorem ctxOnes (h : (fn (F := Ideal) x0 x1 x2 x3 x4).2.2.2.1 = fun _ => 1#1) (b : Fin 4) (k : Fin 256) (e : Fin 4) :
    x2 (ix3 b k ⟨e.val * 128 + 64, by omega⟩) = 1 := by
  refine one_of_eq _ (Eq.trans ?_ (congrFun h (ix3 b k e)))
  symm
  pointwise [fn, fn_part1]

theorem ones (h : (fn (F := Ideal) x0 x1 x2 x3 x4).2.2.2.2 = fun _ => 1#1) (b : Fin 4) (k : Fin 8192) (e : Fin 4) :
    x4 (ix3 b k ⟨e.val * 128 + 64, by omega⟩) = 1 := by
  refine one_of_eq _ (Eq.trans ?_ (congrFun h (ix3 b k e)))
  symm
  pointwise [fn, fn_part1]

end Cert.MlaPre
-- ==== Proof.MlaClaims.lean ====
module

public import proofs.«01_k».proof.Proof.MlaEq
public import proofs.«01_k».proof.Proof.MlaPre
public import proofs.«01_k».proof.Proof.Gen.Kernel.Frame
public import proofs.«01_k».proof.Proof.Gen.ReferenceIdeal.Run
public import Idealize.ShloMosaic.Adequacy

@[expose] public section

/-!
  The attention's claims.
-/

noncomputable section

namespace Cert.MlaClaims

open Idealize.ShloMosaic Idealize.SL.Sem

theorem frame_p : Cert.quiescent_Kernel := fun m ρ _ => Cert.Kernel.Gen.frame m ρ
theorem frame_pi : Cert.quiescent_KernelIdeal := fun m ρ _ => Cert.KernelIdeal.Gen.frame m ρ
theorem frame_pi_pre : Cert.quiescent_KernelIdeal_pre_finite_ones_lane := fun m ρ _ => Cert.KernelIdeal.Gen.frame m ρ

/-- The reference runs, leaves its arguments alone and has no semaphore to leave behind. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
theorem frame_ri_pre : Cert.quiescent_ReferenceIdeal_pre_finite_ones_lane := fun m ρ _ => frame_ri m ρ trivial

/-- The scale's name has the value the table gives it. -/
theorem preserves : Cert.preserves_Kernel_KernelIdeal :=
  IdealRules.named_const.statement Cert.KernelIdeal.κ "scale_log2e" .f32 0x3E16C740#32 (((Real.sqrt 96)⁻¹ * (Real.log 2)⁻¹ : ℝ) : EReal) rfl

/-- The kernel's result array and the reference's result are equal. -/
theorem algebraic : Cert.algebraic_KernelIdeal_ReferenceIdeal_pre_finite_ones_lane := by
  intro m ρ m' ρ' hpre hagree
  refine ⟨_, Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4⟩ := hagree c
  obtain ⟨p0, p1, p3, p2, p4⟩ := hpre c
  rw [Cert.ReferenceIdeal.Read.val_main_v30_eq, a0, a1, a2, a3, a4]
  exact (Cert.Mla.array_eq m c _ fun b h r d => Cert.MlaEq.result_eq _ _ _ _ _ b h r
    (MlaPre.queries _ _ _ _ _ p0) (MlaPre.ctxKeys _ _ _ _ _ p1) (MlaPre.keys _ _ _ _ _ p3)
    (MlaPre.ctxOnes _ _ _ _ _ p2) (MlaPre.ones _ _ _ _ _ p4) d).symm

end Cert.MlaClaims

end
-- ==== Proof.FfnBlock.lean ====
module

public import proofs.«01_k».proof.Proof.Gen.Kernel2Ideal.Skeleton
public import Idealize.ShloMosaic.Lib.Pointwise

@[expose] public section

set_option maxRecDepth 16384

/-!
  What the feed-forward kernel computes for one row of a block: the payloads read at an index.
-/

noncomputable section

namespace Cert.Ffn

open Cert.Kernel2Ideal Cert.Kernel2Ideal.Gen Idealize.ShloMosaic

/-- A row divided by the root of its mean square (with the small constant added), times a gain. -/
def norm (x g : Fin 1024 → EReal) (o : Fin 1024) : EReal :=
  x o * Ideal.rsqrt (Ideal.div (∑ k : Fin 1024, x k * x k) (Ideal.ofBits .f32 0x44800000#32) + Ideal.ofBits .f32 0x358637BD#32) * g o

/-- The normalized row, scaled and shifted. -/
def modulated (x g sc sh : Fin 1024 → EReal) (o : Fin 1024) : EReal := norm x g o * (1 + sc o) + sh o

/-- One hidden unit: the gate's inner product through `x / (1 + exp (-x))`, times the other inner product. -/
def unit (h g u : Fin 1024 → EReal) : EReal :=
  (∑ k, h k * g k) * Ideal.div 1 (1 + Ideal.exp (0 - ∑ k, h k * g k)) * ∑ k, h k * u k

/-- What 256 hidden units add to entry `o`. -/
def chunk (h : Fin 1024 → EReal) (u w : Vec Ideal S1x1024x256 .bf16) (d : Vec Ideal S1x256x1024 .bf16) (o : Fin 1024) : EReal :=
  ∑ e : Fin 256, unit h (fun k => u (ix3 0 k e)) (fun k => w (ix3 0 k e)) * d (ix3 0 e o)

theorem pay3_apply (b0 : Vec Ideal S1x512x1024 .f32) (b4 : Vec Ideal S1x1024 .f32) (b1 b2 : Vec Ideal S1x1x1024 .f32) (r : Fin 512) (o : Fin 1024) :
    k0_pay3 (F := Ideal) b0 b4 b1 b2 (ix2 r o)
      = modulated (fun k => b0 (ix3 0 r k)) (fun k => b4 (ix2 0 k)) (fun k => b1 (ix3 0 0 k)) (fun k => b2 (ix3 0 0 k)) o := by
  unfold modulated norm
  pointwise [k0_pay3, k0_pay2]

variable (H : FVec Ideal S512x1024 .bf16) (u w : Vec Ideal S1x1024x256 .bf16) (d : Vec Ideal S1x256x1024 .bf16) (A : FVec Ideal S512x1024 .f32)

theorem pay8_apply (r : Fin 512) (o : Fin 1024) :
    k0_pay8 H u w d (ix2 r o) = chunk (fun k => H (ix2 r k)) u w d o := by
  unfold chunk unit
  pointwise [k0_pay8]

theorem pay9_apply (p : FVec Ideal S512x1024 .f32) (r : Fin 512) (o : Fin 1024) : k0_pay9 p A (ix2 r o) = A (ix2 r o) + p (ix2 r o) := by
  pointwise [k0_pay9]

theorem first_eq (b0 : Vec Ideal S1x512x1024 .f32) (b4 : Vec Ideal S1x1024 .f32) (b1 b2 : Vec Ideal S1x1x1024 .f32) (r : Fin 512) (o : Fin 1024) :
    k0_pay7 (k0_pay4 b0 b4 b1 b2 u) (k0_pay5 b0 b4 b1 b2 w) k0_pay6 d (ix2 r o)
      = chunk (fun k => k0_pay3 b0 b4 b1 b2 (ix2 r k)) u w d o := by
  unfold chunk unit
  pointwise [k0_pay7, k0_pay4, k0_pay5, k0_pay6]

theorem pay10_eq : k0_pay10 H u w d A = k0_pay9 (k0_pay8 H u w d) A := rfl
theorem pay12_eq : k0_pay12 H (k0_pay11 H u) w d A = k0_pay9 (k0_pay8 H u w d) A := rfl
theorem pay16_eq : k0_pay16 (k0_pay13 H u) (k0_pay14 H w) (k0_pay15 H u) d A = k0_pay9 (k0_pay8 H u w d) A := rfl
theorem pay18_eq : k0_pay18 (k0_pay17 H u w d A) = k0_pay9 (k0_pay8 H u w d) A := rfl
theorem pay19_eq : k0_pay19 H u w d A = k0_pay9 (k0_pay8 H u w d) A := rfl
theorem pay22_eq : k0_pay22 H (k0_pay20 H u) (k0_pay21 w) d A = k0_pay9 (k0_pay8 H u w d) A := rfl
theorem pay24_eq : k0_pay24 (k0_pay23 H u w) d A = k0_pay9 (k0_pay8 H u w d) A := rfl
theorem pay25_eq : k0_pay25 H u w d A = k0_pay9 (k0_pay8 H u w d) A := rfl
theorem pay26_eq : k0_pay26 H u w d A = k0_pay9 (k0_pay8 H u w d) A := rfl

/-- A block's result: the row plus the gated sum, normalized. -/
theorem last_apply (b0 : Vec Ideal S1x512x1024 .f32) (b3 : Vec Ideal S1x1x1024 .f32) (b7 : Vec Ideal S1x1024 .f32) (z : Fin 1) (r : Fin 512) (o : Fin 1024) :
    k0_pay1 (k0_pay27 (k0_pay2 b0) b3 A) (k0_pay28 b7) (k0_pay29 (k0_pay2 b0) b3 A) (ix3 z r o)
      = norm (fun k => b0 (ix3 0 r k) + b3 (ix3 0 0 k) * A (ix2 r k)) (fun k => b7 (ix2 0 k)) o := by
  unfold norm
  pointwise [k0_pay1, k0_pay27, k0_pay2, k0_pay28, k0_pay29]

end Cert.Ffn

end
-- ==== Proof.FfnArray.lean ====
module

public import proofs.«01_k».proof.Proof.FfnBlock
public import proofs.«01_k».proof.Proof.Gen.Kernel2Ideal.Value
public import Idealize.ShloMosaic.Lib.Pipeline.ValueKit
public import Idealize.ShloMosaic.Lib.Pipeline.ReadBack

@[expose] public section

set_option maxRecDepth 16384

/-!
  What the feed-forward part's result array holds: at each entry, the row plus its gated sum over all hidden units,
  normalized.
-/

noncomputable section

namespace Cert.Ffn

open Cert.Kernel2Ideal Cert.Kernel2Ideal.Gen Cert.Kernel2Ideal.Value Idealize.ShloMosaic Idealize.ShloMosaic.TcCoe Idealize.SL.Sem

/-- The buffer the eleven steps leave, at an entry: the steps' sum. -/
theorem steps_apply (b0 : Vec Ideal S1x512x1024 .f32) (b4 : Vec Ideal S1x1024 .f32) (b1 b2 : Vec Ideal S1x1x1024 .f32)
    (u0 w0 u1 w1 u2 w2 u3 w3 u4 w4 u5 w5 u6 w6 u7 w7 u8 w8 u9 w9 u10 w10 : Vec Ideal S1x1024x256 .bf16)
    (d0 d1 d2 d3 d4 d5 d6 d7 d8 d9 d10 : Vec Ideal S1x256x1024 .bf16)
    (H : FVec Ideal S512x1024 .bf16) (hH : H = k0_pay3 b0 b4 b1 b2) (h : Fin 1024 → EReal) (r : Fin 512)
    (hh : (fun k => H (ix2 r k)) = h) (o : Fin 1024) :
    (k0_pay26 H u10 w10 d10
      (k0_pay25 H u9 w9 d9
      (k0_pay24 (k0_pay23 H u8 w8) d8
      (k0_pay22 H (k0_pay20 H u7) (k0_pay21 w7) d7
      (k0_pay19 H u6 w6 d6
      (k0_pay18 (k0_pay17 H u5 w5 d5
      (k0_pay16 (k0_pay13 H u4) (k0_pay14 H w4) (k0_pay15 H u4) d4
      (k0_pay12 H (k0_pay11 H u3) w3 d3
      (k0_pay10 H u2 w2 d2
      (k0_pay9 (k0_pay8 H u1 w1 d1) (k0_pay7 (k0_pay4 b0 b4 b1 b2 u0) (k0_pay5 b0 b4 b1 b2 w0) k0_pay6 d0)))))))))))) (ix2 r o)
      = chunk h u0 w0 d0 o + chunk h u1 w1 d1 o + chunk h u2 w2 d2 o + chunk h u3 w3 d3 o + chunk h u4 w4 d4 o + chunk h u5 w5 d5 o + chunk h u6 w6 d6 o + chunk h u7 w7 d7 o + chunk h u8 w8 d8 o + chunk h u9 w9 d9 o + chunk h u10 w10 d10 o := by
  rw [pay26_eq, pay9_apply, pay25_eq, pay9_apply, pay24_eq, pay9_apply, pay22_eq, pay9_apply, pay19_eq, pay9_apply,
    pay18_eq, pay9_apply, pay16_eq, pay9_apply, pay12_eq, pay9_apply, pay10_eq, pay9_apply, pay9_apply, first_eq, ← hH]
  simp only [pay8_apply, hh]

/-- One hidden unit's term of entry `o`, for a row and a layer's weights. -/
def term (h : Fin 1024 → EReal) (x5 : FVec Ideal S4x1024x5632 .f32) (x6 : FVec Ideal S4x2816x1024 .f32) (o : Fin 1024) (n : Fin 2816) : EReal :=
  unit h (fun k => x5 (ix3 3 k ⟨n.val, by omega⟩)) (fun k => x5 (ix3 3 k ⟨2816 + n.val, by omega⟩)) * x6 (ix3 3 n o)

/-- The terms, continued by zero. -/
def termAt (h : Fin 1024 → EReal) (x5 : FVec Ideal S4x1024x5632 .f32) (x6 : FVec Ideal S4x2816x1024 .f32) (o : Fin 1024) (n : ℕ) : EReal :=
  if hn : n < 2816 then term h x5 x6 o ⟨n, hn⟩ else 0

/-- A function's sum over eleven runs of 256 is its sum. -/
theorem sum_runs (f : ℕ → EReal) :
    (∑ e ∈ Finset.range 256, f (0 + e)) + (∑ e ∈ Finset.range 256, f (256 + e)) + (∑ e ∈ Finset.range 256, f (512 + e)) + (∑ e ∈ Finset.range 256, f (768 + e)) + (∑ e ∈ Finset.range 256, f (1024 + e)) + (∑ e ∈ Finset.range 256, f (1280 + e)) + (∑ e ∈ Finset.range 256, f (1536 + e)) + (∑ e ∈ Finset.range 256, f (1792 + e)) + (∑ e ∈ Finset.range 256, f (2048 + e)) + (∑ e ∈ Finset.range 256, f (2304 + e)) + (∑ e ∈ Finset.range 256, f (2560 + e))
      = ∑ n ∈ Finset.range 2816, f n := by
  have key : ∀ n : ℕ, ∑ k ∈ Finset.range (n + 256), f k = (∑ k ∈ Finset.range n, f k) + ∑ e ∈ Finset.range 256, f (n + e) :=
    fun n => Finset.sum_range_add f n 256
  rw [key 2560, key 2304, key 2048, key 1792, key 1536, key 1280, key 1024, key 768, key 512, key 256]
  simp only [Nat.zero_add]

/-- What the kernel leaves at an entry, from its arrays. -/
def entry (x0 : FVec Ideal S4x8192x1024 .f32) (x1 x2 x3 : FVec Ideal S4x1x1024 .f32) (x4 : FVec Ideal S4x1024 .f32)
    (x5 : FVec Ideal S4x1024x5632 .f32) (x6 : FVec Ideal S4x2816x1024 .f32) (x7 : FVec Ideal S1024 .f32)
    (b : Fin 4) (r : Fin 8192) (o : Fin 1024) : EReal :=
  norm (fun k => x0 (ix3 b r k) + x3 (ix3 b 0 k) * ∑ n : Fin 2816,
      term (modulated (fun k => x0 (ix3 b r k)) (fun k => x4 (ix2 3 k)) (fun k => x1 (ix3 b 0 k)) (fun k => x2 (ix3 b 0 k))) x5 x6 k n)
    (fun k => x7 (ix1 k)) o

variable (m : (ℓ : Loc nD τ sig) → Buf (Elt Ideal) ℓ)

/-! The arrays the host operations write before the kernel runs. -/

theorem V_main_v0 (c : Dev nD) (a : Fin 4) (k : Fin 1024) (n : Fin 5632) :
    V m c main_v0 (ix3 a k n) = m ((c : Thread nD τ).loc main_arg5) (ix3 a k n) := by
  show StableHlo.after hostOps0 _ (Proc.devRef .tc main_v0) _ = _
  after_results
  rfl

theorem V_main_v1 (c : Dev nD) (a : Fin 4) (k : Fin 2816) (n : Fin 1024) :
    V m c main_v1 (ix3 a k n) = m ((c : Thread nD τ).loc main_arg6) (ix3 a k n) := by
  show StableHlo.after hostOps0 _ (Proc.devRef .tc main_v1) _ = _
  after_results
  rfl

theorem V_main_v2 (c : Dev nD) (k : Fin 1024) :
    V m c main_v2 (ix2 0 k) = m ((c : Thread nD τ).loc main_arg7) (ix1 k) := by
  show StableHlo.after hostOps0 _ (Proc.devRef .tc main_v2) _ = _
  after_results
  pointwise

theorem V_main_v5 (c : Dev nD) (k : Fin 1024) :
    V m c main_v5 (ix2 0 k) = m ((c : Thread nD τ).loc main_arg4) (ix2 3 k) := by
  show StableHlo.after hostOps0 _ (Proc.devRef .tc main_v5) _ = _
  after_results
  pointwise

theorem index0 : ∀ t : Fin cfg0.N, win0_0.index t = ![(grid0.coords t 0).val, (grid0.coords t 1).val, 0] := (by decide +kernel : ∀ t : Fin grid0.N, _)
theorem index1 : ∀ t : Fin cfg0.N, win0_1.index t = ![(grid0.coords t 0).val, 0, 0] := (by decide +kernel : ∀ t : Fin grid0.N, _)
theorem index2 : ∀ t : Fin cfg0.N, win0_2.index t = ![(grid0.coords t 0).val, 0, 0] := (by decide +kernel : ∀ t : Fin grid0.N, _)
theorem index3 : ∀ t : Fin cfg0.N, win0_3.index t = ![(grid0.coords t 0).val, 0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![3, 0, 0] := (by decide +kernel : ∀ t : Fin grid0.N, _)
theorem index6 : ∀ t : Fin cfg0.N, win0_6.index t = ![3, 0, 0] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![(grid0.coords t 0).val, (grid0.coords t 1).val, 0] := (by decide +kernel : ∀ t : Fin grid0.N, _)

theorem x_block (c : Dev nD) (t : Fin cfg0.N) (r : Fin 512) (k : Fin 1024) :
    iblk m c 0 t (ix3 0 r k) = m ((c : Thread nD τ).loc main_arg0) (ix3 (grid0.coords t 0)
      ⟨(grid0.coords t 1).val * 512 + r.val, by have := (grid0.coords t 1).isLt; simp at this; omega⟩ k) := by
  blk_simp [iblk]
  rw [V_main_arg0]
  exact congrArg _ (by blk_ext [index0])

theorem sc_block (c : Dev nD) (t : Fin cfg0.N) (k : Fin 1024) :
    iblk m c 1 t (ix3 0 0 k) = m ((c : Thread nD τ).loc main_arg1) (ix3 (grid0.coords t 0) 0 k) := by
  blk_simp [iblk]
  rw [V_main_arg1]
  exact congrArg _ (by blk_ext [index1])

theorem sh_block (c : Dev nD) (t : Fin cfg0.N) (k : Fin 1024) :
    iblk m c 2 t (ix3 0 0 k) = m ((c : Thread nD τ).loc main_arg2) (ix3 (grid0.coords t 0) 0 k) := by
  blk_simp [iblk]
  rw [V_main_arg2]
  exact congrArg _ (by blk_ext [index2])

theorem gate_block (c : Dev nD) (t : Fin cfg0.N) (k : Fin 1024) :
    iblk m c 3 t (ix3 0 0 k) = m ((c : Thread nD τ).loc main_arg3) (ix3 (grid0.coords t 0) 0 k) := by
  blk_simp [iblk]
  rw [V_main_arg3]
  exact congrArg _ (by blk_ext [index3])

theorem gain_block (c : Dev nD) (t : Fin cfg0.N) (k : Fin 1024) :
    iblk m c 4 t (ix2 0 k) = m ((c : Thread nD τ).loc main_arg4) (ix2 3 k) := by
  refine Eq.trans ?_ (V_main_v5 m c k)
  blk_simp [iblk]
  exact congrArg _ (by blk_ext [index4])

theorem lastGain_block (c : Dev nD) (t : Fin cfg0.N) (k : Fin 1024) :
    iblk m c 7 t (ix2 0 k) = m ((c : Thread nD τ).loc main_arg7) (ix1 k) := by
  refine Eq.trans ?_ (V_main_v2 m c k)
  blk_simp [iblk]
  exact congrArg _ (by blk_ext [index7])

theorem up_block (c : Dev nD) (t : Fin cfg0.N) (k : Fin 1024) (n : Fin 5632) :
    iblk m c 5 t (ix3 0 k n) = m ((c : Thread nD τ).loc main_arg5) (ix3 3 k n) := by
  refine Eq.trans ?_ (V_main_v0 m c 3 k n)
  blk_simp [iblk]
  exact congrArg _ (by blk_ext [index5])

theorem down_block (c : Dev nD) (t : Fin cfg0.N) (n : Fin 2816) (o : Fin 1024) :
    iblk m c 6 t (ix3 0 n o) = m ((c : Thread nD τ).loc main_arg6) (ix3 3 n o) := by
  refine Eq.trans ?_ (V_main_v1 m c 3 n o)
  blk_simp [iblk]
  exact congrArg _ (by blk_ext [index6])

/-- What a step adds, from the arrays. -/
theorem chunk_block (c : Dev nD) (t : Fin cfg0.N) (h : Fin 1024 → EReal) (o : Fin 1024) (n n' : ℕ) (hn : n + 256 ≤ 2816) (hn' : n' = 2816 + n)
    (p : ∀ a, (![0, 0, n] : Fin 3 → ℕ) a + (![1, 1024, 256] : Fin 3 → ℕ) a ≤ S1x1024x5632.size a)
    (q : ∀ a, (![0, 0, n'] : Fin 3 → ℕ) a + (![1, 1024, 256] : Fin 3 → ℕ) a ≤ S1x1024x5632.size a)
    (s : ∀ a, (![0, n, 0] : Fin 3 → ℕ) a + (![1, 256, 1024] : Fin 3 → ℕ) a ≤ S1x2816x1024.size a) :
    chunk h (View.ld (iblk m c 5 t) (Rect.unit ![0, 0, n] ![1, 1024, 256] p)) (View.ld (iblk m c 5 t) (Rect.unit ![0, 0, n'] ![1, 1024, 256] q))
        (View.ld (iblk m c 6 t) (Rect.unit ![0, n, 0] ![1, 256, 1024] s)) o
      = ∑ e ∈ Finset.range 256, termAt h (m ((c : Thread nD τ).loc main_arg5)) (m ((c : Thread nD τ).loc main_arg6)) o (n + e) := by
  subst hn'
  rw [Finset.sum_range]
  unfold chunk
  refine Finset.sum_congr rfl fun e _ => ?_
  unfold termAt
  rw [dif_pos (by omega)]
  unfold term
  have hu : ∀ k, View.ld (iblk m c 5 t) (Rect.unit ![0, 0, n] ![1, 1024, 256] p) (ix3 0 k e)
      = m ((c : Thread nD τ).loc main_arg5) (ix3 3 k ⟨n + e.val, by omega⟩) := fun k => by
    rw [View.ld_unit_apply_of _ (i := ix3 0 k ⟨n + e.val, by omega⟩) (hi := fun a => by fin_cases a <;> simp [ix3])]
    exact up_block m c t k _
  have hw : ∀ k, View.ld (iblk m c 5 t) (Rect.unit ![0, 0, 2816 + n] ![1, 1024, 256] q) (ix3 0 k e)
      = m ((c : Thread nD τ).loc main_arg5) (ix3 3 k ⟨2816 + (n + e.val), by omega⟩) := fun k => by
    rw [View.ld_unit_apply_of _ (i := ix3 0 k ⟨2816 + (n + e.val), by omega⟩)
      (hi := fun a => by fin_cases a <;> simp [ix3] <;> omega)]
    exact up_block m c t k _
  have hd : View.ld (iblk m c 6 t) (Rect.unit ![0, n, 0] ![1, 256, 1024] s) (ix3 0 e o)
      = m ((c : Thread nD τ).loc main_arg6) (ix3 3 ⟨n + e.val, by omega⟩ o) := by
    rw [View.ld_unit_apply_of _ (i := ix3 0 ⟨n + e.val, by omega⟩ o) (hi := fun a => by fin_cases a <;> simp [ix3])]
    exact down_block m c t _ o
  rw [hd]
  simp only [hu, hw]

/-- The eleven steps' sum, from the arrays. -/
theorem chunks_block (c : Dev nD) (t : Fin cfg0.N) (h : Fin 1024 → EReal) (o : Fin 1024)
    (p0 : ∀ a, (![0, 0, 0] : Fin 3 → ℕ) a + (![1, 1024, 256] : Fin 3 → ℕ) a ≤ S1x1024x5632.size a)
    (q0 : ∀ a, (![0, 0, 2816] : Fin 3 → ℕ) a + (![1, 1024, 256] : Fin 3 → ℕ) a ≤ S1x1024x5632.size a)
    (s0 : ∀ a, (![0, 0, 0] : Fin 3 → ℕ) a + (![1, 256, 1024] : Fin 3 → ℕ) a ≤ S1x2816x1024.size a)
    (p1 : ∀ a, (![0, 0, 256] : Fin 3 → ℕ) a + (![1, 1024, 256] : Fin 3 → ℕ) a ≤ S1x1024x5632.size a)
    (q1 : ∀ a, (![0, 0, 3072] : Fin 3 → ℕ) a + (![1, 1024, 256] : Fin 3 → ℕ) a ≤ S1x1024x5632.size a)
    (s1 : ∀ a, (![0, 256, 0] : Fin 3 → ℕ) a + (![1, 256, 1024] : Fin 3 → ℕ) a ≤ S1x2816x1024.size a)
    (p2 : ∀ a, (![0, 0, 512] : Fin 3 → ℕ) a + (![1, 1024, 256] : Fin 3 → ℕ) a ≤ S1x1024x5632.size a)
    (q2 : ∀ a, (![0, 0, 3328] : Fin 3 → ℕ) a + (![1, 1024, 256] : Fin 3 → ℕ) a ≤ S1x1024x5632.size a)
    (s2 : ∀ a, (![0, 512, 0] : Fin 3 → ℕ) a + (![1, 256, 1024] : Fin 3 → ℕ) a ≤ S1x2816x1024.size a)
    (p3 : ∀ a, (![0, 0, 768] : Fin 3 → ℕ) a + (![1, 1024, 256] : Fin 3 → ℕ) a ≤ S1x1024x5632.size a)
    (q3 : ∀ a, (![0, 0, 3584] : Fin 3 → ℕ) a + (![1, 1024, 256] : Fin 3 → ℕ) a ≤ S1x1024x5632.size a)
    (s3 : ∀ a, (![0, 768, 0] : Fin 3 → ℕ) a + (![1, 256, 1024] : Fin 3 → ℕ) a ≤ S1x2816x1024.size a)
    (p4 : ∀ a, (![0, 0, 1024] : Fin 3 → ℕ) a + (![1, 1024, 256] : Fin 3 → ℕ) a ≤ S1x1024x5632.size a)
    (q4 : ∀ a, (![0, 0, 3840] : Fin 3 → ℕ) a + (![1, 1024, 256] : Fin 3 → ℕ) a ≤ S1x1024x5632.size a)
    (s4 : ∀ a, (![0, 1024, 0] : Fin 3 → ℕ) a + (![1, 256, 1024] : Fin 3 → ℕ) a ≤ S1x2816x1024.size a)
    (p5 : ∀ a, (![0, 0, 1280] : Fin 3 → ℕ) a + (![1, 1024, 256] : Fin 3 → ℕ) a ≤ S1x1024x5632.size a)
    (q5 : ∀ a, (![0, 0, 4096] : Fin 3 → ℕ) a + (![1, 1024, 256] : Fin 3 → ℕ) a ≤ S1x1024x5632.size a)
    (s5 : ∀ a, (![0, 1280, 0] : Fin 3 → ℕ) a + (![1, 256, 1024] : Fin 3 → ℕ) a ≤ S1x2816x1024.size a)
    (p6 : ∀ a, (![0, 0, 1536] : Fin 3 → ℕ) a + (![1, 1024, 256] : Fin 3 → ℕ) a ≤ S1x1024x5632.size a)
    (q6 : ∀ a, (![0, 0, 4352] : Fin 3 → ℕ) a + (![1, 1024, 256] : Fin 3 → ℕ) a ≤ S1x1024x5632.size a)
    (s6 : ∀ a, (![0, 1536, 0] : Fin 3 → ℕ) a + (![1, 256, 1024] : Fin 3 → ℕ) a ≤ S1x2816x1024.size a)
    (p7 : ∀ a, (![0, 0, 1792] : Fin 3 → ℕ) a + (![1, 1024, 256] : Fin 3 → ℕ) a ≤ S1x1024x5632.size a)
    (q7 : ∀ a, (![0, 0, 4608] : Fin 3 → ℕ) a + (![1, 1024, 256] : Fin 3 → ℕ) a ≤ S1x1024x5632.size a)
    (s7 : ∀ a, (![0, 1792, 0] : Fin 3 → ℕ) a + (![1, 256, 1024] : Fin 3 → ℕ) a ≤ S1x2816x1024.size a)
    (p8 : ∀ a, (![0, 0, 2048] : Fin 3 → ℕ) a + (![1, 1024, 256] : Fin 3 → ℕ) a ≤ S1x1024x5632.size a)
    (q8 : ∀ a, (![0, 0, 4864] : Fin 3 → ℕ) a + (![1, 1024, 256] : Fin 3 → ℕ) a ≤ S1x1024x5632.size a)
    (s8 : ∀ a, (![0, 2048, 0] : Fin 3 → ℕ) a + (![1, 256, 1024] : Fin 3 → ℕ) a ≤ S1x2816x1024.size a)
    (p9 : ∀ a, (![0, 0, 2304] : Fin 3 → ℕ) a + (![1, 1024, 256] : Fin 3 → ℕ) a ≤ S1x1024x5632.size a)
    (q9 : ∀ a, (![0, 0, 5120] : Fin 3 → ℕ) a + (![1, 1024, 256] : Fin 3 → ℕ) a ≤ S1x1024x5632.size a)
    (s9 : ∀ a, (![0, 2304, 0] : Fin 3 → ℕ) a + (![1, 256, 1024] : Fin 3 → ℕ) a ≤ S1x2816x1024.size a)
    (p10 : ∀ a, (![0, 0, 2560] : Fin 3 → ℕ) a + (![1, 1024, 256] : Fin 3 → ℕ) a ≤ S1x1024x5632.size a)
    (q10 : ∀ a, (![0, 0, 5376] : Fin 3 → ℕ) a + (![1, 1024, 256] : Fin 3 → ℕ) a ≤ S1x1024x5632.size a)
    (s10 : ∀ a, (![0, 2560, 0] : Fin 3 → ℕ) a + (![1, 256, 1024] : Fin 3 → ℕ) a ≤ S1x2816x1024.size a) :
    chunk h (View.ld (iblk m c 5 t) (Rect.unit ![0, 0, 0] ![1, 1024, 256] p0))
        (View.ld (iblk m c 5 t) (Rect.unit ![0, 0, 2816] ![1, 1024, 256] q0))
        (View.ld (iblk m c 6 t) (Rect.unit ![0, 0, 0] ![1, 256, 1024] s0)) o
      + chunk h (View.ld (iblk m c 5 t) (Rect.unit ![0, 0, 256] ![1, 1024, 256] p1))
        (View.ld (iblk m c 5 t) (Rect.unit ![0, 0, 3072] ![1, 1024, 256] q1))
        (View.ld (iblk m c 6 t) (Rect.unit ![0, 256, 0] ![1, 256, 1024] s1)) o
      + chunk h (View.ld (iblk m c 5 t) (Rect.unit ![0, 0, 512] ![1, 1024, 256] p2))
        (View.ld (iblk m c 5 t) (Rect.unit ![0, 0, 3328] ![1, 1024, 256] q2))
        (View.ld (iblk m c 6 t) (Rect.unit ![0, 512, 0] ![1, 256, 1024] s2)) o
      + chunk h (View.ld (iblk m c 5 t) (Rect.unit ![0, 0, 768] ![1, 1024, 256] p3))
        (View.ld (iblk m c 5 t) (Rect.unit ![0, 0, 3584] ![1, 1024, 256] q3))
        (View.ld (iblk m c 6 t) (Rect.unit ![0, 768, 0] ![1, 256, 1024] s3)) o
      + chunk h (View.ld (iblk m c 5 t) (Rect.unit ![0, 0, 1024] ![1, 1024, 256] p4))
        (View.ld (iblk m c 5 t) (Rect.unit ![0, 0, 3840] ![1, 1024, 256] q4))
        (View.ld (iblk m c 6 t) (Rect.unit ![0, 1024, 0] ![1, 256, 1024] s4)) o
      + chunk h (View.ld (iblk m c 5 t) (Rect.unit ![0, 0, 1280] ![1, 1024, 256] p5))
        (View.ld (iblk m c 5 t) (Rect.unit ![0, 0, 4096] ![1, 1024, 256] q5))
        (View.ld (iblk m c 6 t) (Rect.unit ![0, 1280, 0] ![1, 256, 1024] s5)) o
      + chunk h (View.ld (iblk m c 5 t) (Rect.unit ![0, 0, 1536] ![1, 1024, 256] p6))
        (View.ld (iblk m c 5 t) (Rect.unit ![0, 0, 4352] ![1, 1024, 256] q6))
        (View.ld (iblk m c 6 t) (Rect.unit ![0, 1536, 0] ![1, 256, 1024] s6)) o
      + chunk h (View.ld (iblk m c 5 t) (Rect.unit ![0, 0, 1792] ![1, 1024, 256] p7))
        (View.ld (iblk m c 5 t) (Rect.unit ![0, 0, 4608] ![1, 1024, 256] q7))
        (View.ld (iblk m c 6 t) (Rect.unit ![0, 1792, 0] ![1, 256, 1024] s7)) o
      + chunk h (View.ld (iblk m c 5 t) (Rect.unit ![0, 0, 2048] ![1, 1024, 256] p8))
        (View.ld (iblk m c 5 t) (Rect.unit ![0, 0, 4864] ![1, 1024, 256] q8))
        (View.ld (iblk m c 6 t) (Rect.unit ![0, 2048, 0] ![1, 256, 1024] s8)) o
      + chunk h (View.ld (iblk m c 5 t) (Rect.unit ![0, 0, 2304] ![1, 1024, 256] p9))
        (View.ld (iblk m c 5 t) (Rect.unit ![0, 0, 5120] ![1, 1024, 256] q9))
        (View.ld (iblk m c 6 t) (Rect.unit ![0, 2304, 0] ![1, 256, 1024] s9)) o
      + chunk h (View.ld (iblk m c 5 t) (Rect.unit ![0, 0, 2560] ![1, 1024, 256] p10))
        (View.ld (iblk m c 5 t) (Rect.unit ![0, 0, 5376] ![1, 1024, 256] q10))
        (View.ld (iblk m c 6 t) (Rect.unit ![0, 2560, 0] ![1, 256, 1024] s10)) o
      = ∑ n : Fin 2816, term h (m ((c : Thread nD τ).loc main_arg5)) (m ((c : Thread nD τ).loc main_arg6)) o n := by
  rw [chunk_block m c t h o 0 2816 (by norm_num) (by norm_num), chunk_block m c t h o 256 3072 (by norm_num) (by norm_num), chunk_block m c t h o 512 3328 (by norm_num) (by norm_num), chunk_block m c t h o 768 3584 (by norm_num) (by norm_num), chunk_block m c t h o 1024 3840 (by norm_num) (by norm_num), chunk_block m c t h o 1280 4096 (by norm_num) (by norm_num), chunk_block m c t h o 1536 4352 (by norm_num) (by norm_num), chunk_block m c t h o 1792 4608 (by norm_num) (by norm_num), chunk_block m c t h o 2048 4864 (by norm_num) (by norm_num), chunk_block m c t h o 2304 5120 (by norm_num) (by norm_num), chunk_block m c t h o 2560 5376 (by norm_num) (by norm_num),
    sum_runs, Finset.sum_range]
  exact Finset.sum_congr rfl fun n _ => dif_pos n.isLt

/-- The result array is the array of the entries. -/
theorem array_eq (c : Dev nD) (G : FVec Ideal S4x8192x1024 .f32)
    (hG : ∀ (b : Fin 4) (r : Fin 8192) (o : Fin 1024), G (ix3 b r o)
      = entry (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) b r o) :
    (dats m 0 c).arrAt 8 cfg0.N = G := by
  refine (dats m 0 c).arrAt_eq_of_covers 8 G (by decide +kernel) fun t hf y => ?_
  blk_simp
  rw [after0_8]
  unfold outsAt0
  frame_open
  simp (disch := decide) only [↓ View.readCov_skip, ↓ View.readCov_cons_toLoadRect, ↓ View.readCov_fill]
  frame_out
  obtain ⟨z, r, o, rfl⟩ : ∃ (z : Fin 1) (r : Fin 512) (o : Fin 1024), y = ix3 z r o := ⟨y 0, y 1, y 2, eq_ix3 y⟩
  refine (last_apply _ _ _ _ z r o).trans ?_
  have hi : ((View.whole main_v6).slice (win0_8.rect t)).emb (ix3 z r o)
      = ix3 (grid0.coords t 0) ⟨(grid0.coords t 1).val * 512 + r.val, by have := (grid0.coords t 1).isLt; simp at this; omega⟩ o := by
    blk_ext [index8]
  refine Eq.trans ?_ ((congrArg G hi).trans (hG (grid0.coords t 0) _ o)).symm
  unfold entry
  refine congrArg₂ (fun f g => norm f g o) (funext fun k => ?_) (funext fun k => lastGain_block m c t k)
  rw [x_block, gate_block]
  refine congrArg₂ (· + ·) rfl (congrArg₂ (· * ·) rfl ?_)
  refine (steps_apply _ _ _ _ _ _ _ _ _ _ _ _ _ _ _ _ _ _ _ _ _ _ _ _ _ _ _ _ _ _ _ _ _ _ _ _ _ _ rfl _ r ?_ k).trans
    (chunks_block m c t _ k _ _ _ _ _ _ _ _ _ _ _ _ _ _ _ _ _ _ _ _ _ _ _ _ _ _ _ _ _ _ _ _ _)
  funext j
  rw [pay3_apply]
  simp only [x_block, gain_block, sc_block, sh_block]

end Cert.Ffn

end
-- ==== Proof.FfnRef.lean ====
module

public import proofs.«01_k».proof.Proof.FfnArray
public import proofs.«01_k».proof.Proof.Gen.Reference2Ideal.Read

@[expose] public section

set_option maxRecDepth 16384

/-!
  What the feed-forward part's reference computes at an entry.
-/

noncomputable section

namespace Cert.FfnRef

open Cert.Reference2Ideal Cert.Reference2Ideal.Gen Cert.Reference2Ideal.Read Idealize.ShloMosaic

variable (x0 : FVec Ideal S4x8192x1024 .f32) (x1 x2 x3 : FVec Ideal S4x1x1024 .f32) (x4 : FVec Ideal S4x1024 .f32)
  (x5 : FVec Ideal S4x1024x5632 .f32) (x6 : FVec Ideal S4x2816x1024 .f32) (x7 : FVec Ideal S1024 .f32)

/-- A row, normalized, scaled and shifted. -/
def hidden (b : Fin 4) (r : Fin 8192) : Fin 1024 → EReal :=
  Ffn.modulated (fun k => x0 (ix3 b r k)) (fun k => x4 (ix2 3 k)) (fun k => x1 (ix3 b 0 k)) (fun k => x2 (ix3 b 0 k))

theorem hidden_apply (b : Fin 4) (r : Fin 8192) (o : Fin 1024) :
    val_main_v20 (F := Ideal) x0 x1 x2 x4 (ix3 b r o) = hidden x0 x1 x2 x4 b r o := by
  unfold hidden Ffn.modulated Ffn.norm
  pointwise [val_main_v20, val_main_v19, val_main_v18, val_main_v17, val_main_v16, val_main_v15, val_main_cst_2, val_main_v14, val_main_v13,
    val_main_v12, val_main_v11, val_main_v10, val_main_v9, val_main_v8, val_main_v7, val_main_cst_1, val_main_v6, val_main_v5, val_main_cst_0,
    val_main_v4, val_main_v3, val_main_cst, val_main_v2, val_main_v1, val_main_v0]

theorem up_apply (b : Fin 4) (r : Fin 8192) (n : Fin 5632) :
    val_main_v25 (F := Ideal) x0 x1 x2 x4 x5 (ix3 b r n) = ∑ k, hidden x0 x1 x2 x4 b r k * x5 (ix3 3 k n) := by
  pointwise [val_main_v25, val_main_v22, val_main_v21]
  simp only [hidden_apply]

theorem unit_apply (b : Fin 4) (r : Fin 8192) (n : Fin 2816) :
    val_main_v29 (F := Ideal) x0 x1 x2 x4 x5 (ix3 b r n)
      = Ffn.unit (hidden x0 x1 x2 x4 b r) (fun k => x5 (ix3 3 k ⟨n.val, by omega⟩)) (fun k => x5 (ix3 3 k ⟨2816 + n.val, by omega⟩)) := by
  unfold Ffn.unit
  pointwise [val_main_v29, val_main_v28, val_main_v27, val_main_v26, val_main_call0_v5, val_main_call0_v4, val_main_call0_v3, val_main_call0_v2,
    val_main_call0_v1, val_main_call0_v0, val_main_call0_cst, val_main_call0_cst_0]
  simp only [up_apply, zero_sub]

theorem sum_apply (b : Fin 4) (r : Fin 8192) (o : Fin 1024) :
    val_main_v30 (F := Ideal) x0 x1 x2 x4 x5 x6 (ix3 b r o) = ∑ n : Fin 2816, Ffn.term (hidden x0 x1 x2 x4 b r) x5 x6 o n := by
  unfold Ffn.term
  pointwise [val_main_v30, val_main_v24, val_main_v23]
  simp only [unit_apply]

theorem result_apply (b : Fin 4) (r : Fin 8192) (o : Fin 1024) :
    val_main_v46 (F := Ideal) x0 x1 x2 x3 x4 x5 x6 x7 (ix3 b r o) = Ffn.entry x0 x1 x2 x3 x4 x5 x6 x7 b r o := by
  have hs : ∀ k, ∑ n : Fin 2816, Ffn.term (Ffn.modulated (fun k => x0 (ix3 b r k)) (fun k => x4 (ix2 3 k)) (fun k => x1 (ix3 b 0 k))
      (fun k => x2 (ix3 b 0 k))) x5 x6 k n = val_main_v30 (F := Ideal) x0 x1 x2 x4 x5 x6 (ix3 b r k) := fun k => (sum_apply x0 x1 x2 x4 x5 x6 b r k).symm
  unfold Ffn.entry Ffn.norm
  simp only [hs]
  pointwise [val_main_v46, val_main_v45, val_main_v44, val_main_v43, val_main_v42, val_main_v41, val_main_v40, val_main_v39, val_main_cst_5,
    val_main_v38, val_main_v37, val_main_cst_4, val_main_v36, val_main_v35, val_main_cst_3, val_main_v34, val_main_v33, val_main_v32, val_main_v31]

end Cert.FfnRef

end
-- ==== Proof.FfnClaims.lean ====
module

public import proofs.«01_k».proof.Defs
public import proofs.«01_k».proof.Proof.Gen.Kernel2.Frame
public import proofs.«01_k».proof.Proof.FfnRef
public import proofs.«01_k».proof.Proof.Gen.Reference2Ideal.Run
public import Idealize.ShloMosaic.Adequacy

@[expose] public section

/-!
  The feed-forward part's claims.
-/

noncomputable section

namespace Cert.FfnClaims

open Idealize.ShloMosaic Idealize.SL.Sem

theorem frame_p : Cert.quiescent_Kernel2 := fun m ρ _ => Cert.Kernel2.Gen.frame m ρ
theorem frame_pi : Cert.quiescent_Kernel2Ideal := fun m ρ _ => Cert.Kernel2Ideal.Gen.frame m ρ

/-- The reference runs, leaves its arguments alone and has no semaphore to leave behind. -/
theorem frame_ri : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The kernel's result array and the reference's result are equal. -/
theorem algebraic : Cert.algebraic_Kernel2Ideal_Reference2Ideal := by
  intro m ρ m' ρ' hpre hagree
  refine ⟨_, Cert.Kernel2Ideal.Value.run_blocks (F := Ideal) m ρ, ?_⟩
  refine (θ_run Cert.Reference2Ideal.defs _ _).mono (fun _ h c => ⟨(h c).1.trans ?_, (h c).2⟩)
    (Cert.Reference2Ideal.Value.run (F := Ideal) m' ρ')
  obtain ⟨a0, a1, a2, a3, a4, a5, a6, a7⟩ := hagree c
  rw [Cert.Reference2Ideal.Read.val_main_v46_eq, a0, a1, a2, a3, a4, a5, a6, a7]
  exact (Cert.Ffn.array_eq m c _ fun b r o => Cert.FfnRef.result_apply _ _ _ _ _ _ _ _ b r o).symm

end Cert.FfnClaims

end
-- ==== Proof.InpBlock.lean ====
module

public import proofs.«01_k».proof.Proof.FfnBlock
public import proofs.«01_k».proof.Proof.Gen.Kernel3Ideal.Skeleton
public import Idealize.ShloMosaic.Lib.Pointwise

@[expose] public section

set_option maxRecDepth 16384

/-!
  What the input projection computes for one row of a block: the payloads read at an index.
-/

noncomputable section

namespace Cert.Inp

open Cert.Kernel3Ideal Cert.Kernel3Ideal.Gen Idealize.ShloMosaic

theorem pay4_apply (b0 : Vec Ideal S1x1024x1024 .f32) (b3 : Vec Ideal S1x1024 .f32) (b1 b2 : Vec Ideal S1x1x1024 .f32) (r o : Fin 1024) :
    k0_pay4 (F := Ideal) b0 b3 b1 b2 (ix2 r o)
      = Ffn.modulated (fun k => b0 (ix3 0 r k)) (fun k => b3 (ix2 0 k)) (fun k => b1 (ix3 0 0 k)) (fun k => b2 (ix3 0 0 k)) o := by
  unfold Ffn.modulated Ffn.norm
  pointwise [k0_pay4]

variable (H : FVec Ideal S1024x1024 .bf16) (w : Vec Ideal S1x1024x256 .bf16)

/-- A row's product with 256 columns. -/
theorem pay63_apply (r : Fin 1024) (o : Fin 256) : k0_pay63 H w (ix2 r o) = ∑ k, H (ix2 r k) * w (ix3 0 k o) := by
  pointwise [k0_pay63]

theorem pay84_apply (z : Fin 1) (r : Fin 1024) (o : Fin 256) : k0_pay84 H w (ix3 z r o) = ∑ k, H (ix2 r k) * w (ix3 0 k o) := by
  pointwise [k0_pay84]

theorem pay3_apply (z : Fin 1) (r : Fin 1024) (o : Fin 256) : k0_pay3 H w (ix3 z r o) = ∑ k, H (ix2 r k) * w (ix3 0 k o) := by
  pointwise [k0_pay3]

theorem pay83_eq : k0_pay83 H (k0_pay82 w) (constant S1024x256 .f32 0#32) = k0_pay84 H w := rfl
theorem pay85_eq : k0_pay85 H w = k0_pay84 H w := rfl
theorem pay2_eq : k0_pay2 H w = k0_pay84 H w := rfl

end Cert.Inp

end
-- ==== Proof.InpArray.lean ====
module

public import proofs.«01_k».proof.Proof.InpBlock
public import proofs.«01_k».proof.Proof.Gen.Kernel3Ideal.Value
public import Idealize.ShloMosaic.Lib.Pipeline.ValueKit
public import Idealize.ShloMosaic.Lib.Pipeline.ReadBack
public import Idealize.ShloMosaic.Lib.StableHlo.ReadAt

@[expose] public section

set_option maxRecDepth 16384

/-!
  What the input projection's plain result arrays hold: at each entry, the normalized and modulated row's product with
  one column of the weights.
-/

noncomputable section

namespace Cert.Inp

open Cert.Kernel3Ideal Cert.Kernel3Ideal.Gen Cert.Kernel3Ideal.Value Idealize.ShloMosaic Idealize.ShloMosaic.TcCoe Idealize.SL.Sem

/-- A row, normalized, scaled and shifted. -/
def hidden (x0 : FVec Ideal S4x8192x1024 .f32) (x1 x2 : FVec Ideal S4x1x1024 .f32) (x3 : FVec Ideal S4x1024 .f32) (b : Fin 4) (r : Fin 8192) :
    Fin 1024 → EReal :=
  Ffn.modulated (fun k => x0 (ix3 b r k)) (fun k => x3 (ix2 0 k)) (fun k => x1 (ix3 b 0 k)) (fun k => x2 (ix3 b 0 k))

/-- The row's product with a column of the first layer's weights. -/
def column (x0 : FVec Ideal S4x8192x1024 .f32) (x1 x2 : FVec Ideal S4x1x1024 .f32) (x3 : FVec Ideal S4x1024 .f32)
    (x4 : FVec Ideal S4x1024x2464 .f32) (b : Fin 4) (r : Fin 8192) (n : Fin 2464) : EReal :=
  ∑ k, hidden x0 x1 x2 x3 b r k * x4 (ix3 0 k n)

variable (m : (ℓ : Loc nD τ sig) → Buf (Elt Ideal) ℓ)

/-! The arrays the host operations write before the kernel runs. -/

theorem V_main_v137 (c : Dev nD) (k : Fin 1024) :
    V m c main_v137 (ix2 0 k) = m ((c : Thread nD τ).loc main_arg3) (ix2 0 k) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil,
    List.cons_append, List.nil_append]
  after_reads_at

theorem V_main_v117 (c : Dev nD) (a : Fin 4) (k : Fin 1024) (n : Fin 2464) :
    V m c main_v117 (ix3 a k ⟨n.val, by omega⟩) = m ((c : Thread nD τ).loc main_arg4) (ix3 a k n) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil,
    List.cons_append, List.nil_append]
  after_reads_at

theorem index0 : ∀ t : Fin cfg0.N, win0_0.index t = ![(grid0.coords t 1).val, (grid0.coords t 0).val, 0] := (by decide +kernel : ∀ t : Fin grid0.N, _)
theorem index1 : ∀ t : Fin cfg0.N, win0_1.index t = ![(grid0.coords t 1).val, 0, 0] := (by decide +kernel : ∀ t : Fin grid0.N, _)
theorem index2 : ∀ t : Fin cfg0.N, win0_2.index t = ![(grid0.coords t 1).val, 0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0, 0] := (by decide +kernel : ∀ t : Fin grid0.N, _)
theorem index15 : ∀ t : Fin cfg0.N, win0_15.index t = ![(grid0.coords t 1).val, (grid0.coords t 0).val, 0] := (by decide +kernel : ∀ t : Fin grid0.N, _)
theorem index16 : ∀ t : Fin cfg0.N, win0_16.index t = ![(grid0.coords t 1).val, (grid0.coords t 0).val, 0] := (by decide +kernel : ∀ t : Fin grid0.N, _)
theorem index17 : ∀ t : Fin cfg0.N, win0_17.index t = ![(grid0.coords t 1).val, (grid0.coords t 0).val, 0] := (by decide +kernel : ∀ t : Fin grid0.N, _)
theorem index18 : ∀ t : Fin cfg0.N, win0_18.index t = ![(grid0.coords t 1).val, (grid0.coords t 0).val, 0] := (by decide +kernel : ∀ t : Fin grid0.N, _)
theorem index19 : ∀ t : Fin cfg0.N, win0_19.index t = ![(grid0.coords t 1).val, (grid0.coords t 0).val, 0] := (by decide +kernel : ∀ t : Fin grid0.N, _)

/-- The batch of a grid point. -/
def batch (t : Fin cfg0.N) : Fin 4 := ⟨(grid0.coords t 1).val, (grid0.coords t 1).isLt⟩

/-- The token of a row of a grid point's block. -/
def token (t : Fin cfg0.N) (r : Fin 1024) : Fin 8192 :=
  ⟨(grid0.coords t 0).val * 1024 + r.val, by have := (grid0.coords t 0).isLt; simp at this; omega⟩

theorem x_block (c : Dev nD) (t : Fin cfg0.N) (r k : Fin 1024) :
    iblk m c 0 t (ix3 0 r k) = m ((c : Thread nD τ).loc main_arg0) (ix3 (batch t) (token t r) k) := by
  blk_simp [iblk]
  rw [V_main_arg0]
  exact congrArg _ (by blk_ext [index0, batch, token])

theorem sc_block (c : Dev nD) (t : Fin cfg0.N) (k : Fin 1024) :
    iblk m c 1 t (ix3 0 0 k) = m ((c : Thread nD τ).loc main_arg1) (ix3 (batch t) 0 k) := by
  blk_simp [iblk]
  rw [V_main_arg1]
  exact congrArg _ (by blk_ext [index1, batch])

theorem sh_block (c : Dev nD) (t : Fin cfg0.N) (k : Fin 1024) :
    iblk m c 2 t (ix3 0 0 k) = m ((c : Thread nD τ).loc main_arg2) (ix3 (batch t) 0 k) := by
  blk_simp [iblk]
  rw [V_main_arg2]
  exact congrArg _ (by blk_ext [index2, batch])

theorem gain_block (c : Dev nD) (t : Fin cfg0.N) (k : Fin 1024) :
    iblk m c 3 t (ix2 0 k) = m ((c : Thread nD τ).loc main_arg3) (ix2 0 k) := by
  refine Eq.trans ?_ (V_main_v137 m c k)
  blk_simp [iblk]
  exact congrArg _ (by blk_ext [index3])

theorem weight_block (c : Dev nD) (t : Fin cfg0.N) (k : Fin 1024) (n : Fin 2464) :
    iblk m c 4 t (ix3 0 k ⟨n.val, by omega⟩) = m ((c : Thread nD τ).loc main_arg4) (ix3 0 k n) := by
  refine Eq.trans ?_ (V_main_v117 m c 0 k n)
  blk_simp [iblk]
  exact congrArg _ (by blk_ext [index4])

/-- The rows of a grid point's block, normalized and modulated. -/
def rows (c : Dev nD) (t : Fin cfg0.N) : FVec Ideal S1024x1024 .bf16 := k0_pay4 (iblk m c 0 t) (iblk m c 3 t) (iblk m c 1 t) (iblk m c 2 t)

theorem rows_apply (c : Dev nD) (t : Fin cfg0.N) (r k : Fin 1024) :
    rows m c t (ix2 r k) = hidden (m ((c : Thread nD τ).loc main_arg0)) (m ((c : Thread nD τ).loc main_arg1)) (m ((c : Thread nD τ).loc main_arg2))
      (m ((c : Thread nD τ).loc main_arg3)) (batch t) (token t r) k := by
  unfold rows hidden
  rw [pay4_apply]
  simp only [x_block, gain_block, sc_block, sh_block]

/-- A column, from the arrays. -/
def col (c : Dev nD) (b : Fin 4) (r : Fin 8192) (n : Fin 2464) : EReal :=
  column (m ((c : Thread nD τ).loc main_arg0)) (m ((c : Thread nD τ).loc main_arg1)) (m ((c : Thread nD τ).loc main_arg2))
    (m ((c : Thread nD τ).loc main_arg3)) (m ((c : Thread nD τ).loc main_arg4)) b r n

/-- A block's product with 256 columns, from the arrays. -/
theorem col_block (c : Dev nD) (t : Fin cfg0.N) (r : Fin 1024) (o : Fin 256) (n : ℕ)
    (p : ∀ a, (![0, 0, n] : Fin 3 → ℕ) a + (![1, 1024, 256] : Fin 3 → ℕ) a ≤ S1x1024x2560.size a) (hn : n + o.val < 2464) :
    (∑ k, rows m c t (ix2 r k) * View.ld (iblk m c 4 t) (Rect.unit ![0, 0, n] ![1, 1024, 256] p) (ix3 0 k o))
      = col m c (batch t) (token t r) ⟨n + o.val, hn⟩ := by
  unfold col column
  refine Finset.sum_congr rfl fun k _ => ?_
  rw [rows_apply, View.ld_unit_apply_of _ (i := ix3 0 k ⟨n + o.val, by omega⟩) (hi := fun a => by fin_cases a <;> simp [ix3])]
  exact congrArg _ (weight_block m c t k ⟨n + o.val, hn⟩)

theorem array15_eq (c : Dev nD) (G : FVec Ideal S4x8192x256 .f32)
    (hG : ∀ (b : Fin 4) (r : Fin 8192) (o : Fin 256), G (ix3 b r o) = col m c b r ⟨768 + o.val, by omega⟩) :
    (dats m 0 c).arrAt 15 cfg0.N = G := by
  refine (dats m 0 c).arrAt_eq_of_covers 15 G (by decide +kernel) fun t hf y => ?_
  blk_simp
  rw [after0_15]
  unfold outsAt0
  frame_open
  frame_out
  obtain ⟨z, r, o, rfl⟩ : ∃ (z : Fin 1) (r : Fin 1024) (o : Fin 256), y = ix3 z r o := ⟨y 0, y 1, y 2, eq_ix3 y⟩
  have hi : ((View.whole main_v144_4).slice (win0_15.rect t)).emb (ix3 z r o) = ix3 (batch t) (token t r) o := by
    blk_ext [index15, batch, token]
  refine Eq.trans ?_ ((congrArg G hi).trans (hG _ _ o)).symm
  exact (congrFun (pay83_eq _ _) _).trans ((pay84_apply _ _ z r o).trans (col_block m c t r o 768 _ _))

theorem array16_eq (c : Dev nD) (G : FVec Ideal S4x8192x256 .f32)
    (hG : ∀ (b : Fin 4) (r : Fin 8192) (o : Fin 256), G (ix3 b r o) = col m c b r ⟨1024 + o.val, by omega⟩) :
    (dats m 0 c).arrAt 16 cfg0.N = G := by
  refine (dats m 0 c).arrAt_eq_of_covers 16 G (by decide +kernel) fun t hf y => ?_
  blk_simp
  rw [after0_16]
  unfold outsAt0
  frame_open
  frame_out
  obtain ⟨z, r, o, rfl⟩ : ∃ (z : Fin 1) (r : Fin 1024) (o : Fin 256), y = ix3 z r o := ⟨y 0, y 1, y 2, eq_ix3 y⟩
  have hi : ((View.whole main_v144_5).slice (win0_16.rect t)).emb (ix3 z r o) = ix3 (batch t) (token t r) o := by
    blk_ext [index16, batch, token]
  refine Eq.trans ?_ ((congrArg G hi).trans (hG _ _ o)).symm
  exact (pay84_apply _ _ z r o).trans (col_block m c t r o 1024 _ _)

theorem array17_eq (c : Dev nD) (G : FVec Ideal S4x8192x256 .f32)
    (hG : ∀ (b : Fin 4) (r : Fin 8192) (o : Fin 256), G (ix3 b r o) = col m c b r ⟨1280 + o.val, by omega⟩) :
    (dats m 0 c).arrAt 17 cfg0.N = G := by
  refine (dats m 0 c).arrAt_eq_of_covers 17 G (by decide +kernel) fun t hf y => ?_
  blk_simp
  rw [after0_17]
  unfold outsAt0
  frame_open
  frame_out
  obtain ⟨z, r, o, rfl⟩ : ∃ (z : Fin 1) (r : Fin 1024) (o : Fin 256), y = ix3 z r o := ⟨y 0, y 1, y 2, eq_ix3 y⟩
  have hi : ((View.whole main_v144_6).slice (win0_17.rect t)).emb (ix3 z r o) = ix3 (batch t) (token t r) o := by
    blk_ext [index17, batch, token]
  refine Eq.trans ?_ ((congrArg G hi).trans (hG _ _ o)).symm
  exact (congrFun (pay85_eq _ _) _).trans ((pay84_apply _ _ z r o).trans (col_block m c t r o 1280 _ _))

theorem array18_eq (c : Dev nD) (G : FVec Ideal S4x8192x256 .f32)
    (hG : ∀ (b : Fin 4) (r : Fin 8192) (o : Fin 256), G (ix3 b r o) = col m c b r ⟨1536 + o.val, by omega⟩) :
    (dats m 0 c).arrAt 18 cfg0.N = G := by
  refine (dats m 0 c).arrAt_eq_of_covers 18 G (by decide +kernel) fun t hf y => ?_
  blk_simp
  rw [after0_18]
  unfold outsAt0
  frame_open
  frame_out
  obtain ⟨z, r, o, rfl⟩ : ∃ (z : Fin 1) (r : Fin 1024) (o : Fin 256), y = ix3 z r o := ⟨y 0, y 1, y 2, eq_ix3 y⟩
  have hi : ((View.whole main_v144_7).slice (win0_18.rect t)).emb (ix3 z r o) = ix3 (batch t) (token t r) o := by
    blk_ext [index18, batch, token]
  refine Eq.trans ?_ ((congrArg G hi).trans (hG _ _ o)).symm
  exact (congrFun (pay2_eq _ _) _).trans ((pay84_apply _ _ z r o).trans (col_block m c t r o 1536 _ _))

theorem array19_eq (c : Dev nD) (G : FVec Ideal S4x8192x256 .bf16)
    (hG : ∀ (b : Fin 4) (r : Fin 8192) (o : Fin 256), G (ix3 b r o) = col m c b r ⟨1792 + o.val, by omega⟩) :
    (dats m 0 c).arrAt 19 cfg0.N = G := by
  refine (dats m 0 c).arrAt_eq_of_covers 19 G (by decide +kernel) fun t hf y => ?_
  blk_simp
  rw [after0_19]
  unfold outsAt0
  frame_open
  frame_out
  obtain ⟨z, r, o, rfl⟩ : ∃ (z : Fin 1) (r : Fin 1024) (o : Fin 256), y = ix3 z r o := ⟨y 0, y 1, y 2, eq_ix3 y⟩
  have hi : ((View.whole main_v144_8).slice (win0_19.rect t)).emb (ix3 z r o) = ix3 (batch t) (token t r) o := by
    blk_ext [index19, batch, token]
  refine Eq.trans ?_ ((congrArg G hi).trans (hG _ _ o)).symm
  exact (pay3_apply _ _ z r o).trans (col_block m c t r o 1792 _ _)

end Cert.Inp

end
-- ==== Proof.InpLanes.lean ====
module

public import proofs.«01_k».proof.Proof.InpBlock

@[expose] public section

set_option maxRecDepth 16384

/-!
  What the input projection writes to the 128 lanes of a head: the payloads of its windowed and latent queries, keys and
  values read at an index.
-/

noncomputable section

namespace Cert.Inp

open Cert.Kernel3Ideal Cert.Kernel3Ideal.Gen Idealize.ShloMosaic

/-- A row of lanes, its turns to the left by `128 - d` and to the right by `e`, each weighted and added. -/
def turned (d e : ℕ) (x a b c : Fin 128 → EReal) (l : Fin 128) : EReal :=
  x l * a l + x ⟨(l.val + 128 - d) % 128, by omega⟩ * b l + x ⟨(l.val + 128 - e) % 128, by omega⟩ * c l

theorem low_lane : ∀ l : Fin 128, IntOp.cmpi .slt (BitVec.ofNat 32 l.val) 64#32 = if l.val < 64 then 1#1 else 0#1 := by decide +kernel
theorem ones_lane : ∀ l : Fin 128, IntOp.cmpi .eq (BitVec.ofNat 32 l.val) 64#32 = if l.val = 64 then 1#1 else 0#1 := by decide +kernel

theorem select_low (l : Fin 128) (a b : EReal) :
    Scalar.select (IntOp.cmpi .slt (BitVec.ofNat 32 l.val) 64#32) a b = if l.val < 64 then a else b := by
  rw [low_lane]
  split <;> simp [Scalar.select]

theorem select_one (l : Fin 128) (a b : EReal) :
    Scalar.select (IntOp.cmpi .eq (BitVec.ofNat 32 l.val) 64#32) a b = if l.val = 64 then a else b := by
  rw [ones_lane]
  split <;> simp [Scalar.select]

/-! The windowed values. -/

/-- A head's 64 values, the entry 1, zeros. -/
theorem pay69_apply (A : FVec Ideal S1024x256 .f32) (z : Fin 1) (r : Fin 1024) (l : Fin 128) :
    k0_pay69 k0_pay51 k0_pay52 A (ix3 z r l) = if l.val < 64 then A (ix2 r ⟨128 + l.val, by omega⟩) else if l.val = 64 then 1 else 0 := by
  rw [← select_one, ← select_low]
  pointwise [k0_pay69, k0_pay51, k0_pay52, k0_pay68]

theorem pay70_apply (A : FVec Ideal S1024x256 .f32) (z : Fin 1) (r : Fin 1024) (l : Fin 128) :
    k0_pay70 k0_pay51 k0_pay52 A (ix3 z r l)
      = if l.val < 64 then A (ix2 r ⟨128 + (l.val + 128 - 64) % 128, by omega⟩) else if l.val = 64 then 1 else 0 := by
  rw [← select_one, ← select_low]
  pointwise [k0_pay70, k0_pay51, k0_pay52, k0_pay68]

/-! The latent values. -/

theorem pay90_apply (A : FVec Ideal S1024x1024 .f32) (z : Fin 1) (r : Fin 1024) (l : Fin 128) :
    k0_pay90 (iota Kind.tc S1x128 32 [1] iota_S1x128_d1_w32) A (ix3 z r l) = if l.val = 64 then 1 else A (ix2 r ⟨512 + l.val, by omega⟩) := by
  rw [← select_one]
  pointwise [k0_pay90]
theorem pay95_apply (A : FVec Ideal S1024x1024 .f32) (z : Fin 1) (r : Fin 1024) (l : Fin 128) :
    k0_pay95 (iota Kind.tc S1x128 32 [1] iota_S1x128_d1_w32) A (ix3 z r l) = if l.val = 64 then 1 else A (ix2 r ⟨640 + l.val, by omega⟩) := by
  rw [← select_one]
  pointwise [k0_pay95]
theorem pay97_apply (A : FVec Ideal S1024x1024 .f32) (z : Fin 1) (r : Fin 1024) (l : Fin 128) :
    k0_pay97 (iota Kind.tc S1x128 32 [1] iota_S1x128_d1_w32) A (ix3 z r l) = if l.val = 64 then 1 else A (ix2 r ⟨768 + l.val, by omega⟩) := by
  rw [← select_one]
  pointwise [k0_pay97]
theorem pay1_apply (A : FVec Ideal S1024x1024 .f32) (z : Fin 1) (r : Fin 1024) (l : Fin 128) :
    k0_pay1 (k0_pay99 A) (FloatOps.ofBits .f32 1065353216#32) (k0_pay100 (iota Kind.tc S1x128 32 [1] iota_S1x128_d1_w32)) (ix3 z r l)
      = if l.val = 64 then 1 else A (ix2 r ⟨896 + l.val, by omega⟩) := by
  rw [← select_one]
  pointwise [k0_pay1, k0_pay99, k0_pay100]

/-! The windowed keys. -/

section
variable (H : FVec Ideal S1024x1024 .bf16) (w : Vec Ideal S1x1024x256 .bf16) (A : FVec Ideal S1024x256 .f32) (t0 t1 t2 : Vec Ideal S1x1024x128 .f32)

theorem pay66_apply (z : Fin 1) (r : Fin 1024) (l : Fin 128) :
    k0_pay66 H k0_pay51 w t0 t1 t2 (ix3 z r l)
      = if l.val < 64 then turned 112 16 (fun n => k0_pay63 H w (ix2 r ⟨n.val, by omega⟩)) (fun n => t0 (ix3 0 r n)) (fun n => t1 (ix3 0 r n))
          (fun n => t2 (ix3 0 r n)) l else 0 := by
  rw [← select_low]
  unfold turned
  pointwise [k0_pay66, k0_pay64, k0_pay51]

theorem pay67_apply (z : Fin 1) (r : Fin 1024) (l : Fin 128) :
    k0_pay67 (k0_pay65 H k0_pay51 w t0 t1 t2) (ix3 z r l)
      = if l.val < 64 then turned 112 16 (fun n => k0_pay63 H w (ix2 r ⟨n.val, by omega⟩)) (fun n => t0 (ix3 0 r n)) (fun n => t1 (ix3 0 r n))
          (fun n => t2 (ix3 0 r n)) ⟨(l.val + 128 - 64) % 128, by omega⟩ else 0 := by
  rw [← select_low]
  unfold turned
  pointwise [k0_pay67, k0_pay65, k0_pay64, k0_pay51]

/-! The windowed queries. -/

theorem pay57_eq : k0_pay57 (k0_pay55 H w t0 t1 t2) = k0_pay66 H k0_pay51 w t0 t1 t2 := rfl
theorem pay58_eq : k0_pay58 (k0_pay56 H w t0 t1 t2) = k0_pay67 (k0_pay65 H k0_pay51 w t0 t1 t2) := rfl
theorem pay53_eq : k0_pay53 H w = k0_pay63 H w := rfl

theorem pay61_apply (z : Fin 1) (r : Fin 1024) (l : Fin 128) :
    k0_pay61 k0_pay51 A t0 t1 t2 (ix3 z r l)
      = if l.val < 64 then turned 112 16 (fun n => A (ix2 r ⟨128 + n.val, by omega⟩)) (fun n => t0 (ix3 0 r n)) (fun n => t1 (ix3 0 r n))
          (fun n => t2 (ix3 0 r n)) l else 0 := by
  rw [← select_low]
  unfold turned
  pointwise [k0_pay61, k0_pay59, k0_pay51]

theorem pay62_apply (z : Fin 1) (r : Fin 1024) (l : Fin 128) :
    k0_pay62 (k0_pay60 k0_pay51 A t0 t1 t2) (ix3 z r l)
      = if l.val < 64 then turned 112 16 (fun n => A (ix2 r ⟨128 + n.val, by omega⟩)) (fun n => t0 (ix3 0 r n)) (fun n => t1 (ix3 0 r n))
          (fun n => t2 (ix3 0 r n)) ⟨(l.val + 128 - 64) % 128, by omega⟩ else 0 := by
  rw [← select_low]
  unfold turned
  pointwise [k0_pay62, k0_pay60, k0_pay59, k0_pay51]

end

/-! The latent queries and keys. -/

section
variable (C : FVec Ideal S1024x256 .bf16) (Q : Vec Ideal S1x256x512 .bf16) (A : FVec Ideal S1024x512 .f32) (t0 t1 t2 : Vec Ideal S1x1024x128 .f32)

theorem pay71_apply (r : Fin 1024) (o : Fin 512) : k0_pay71 C Q (ix2 r o) = ∑ k, C (ix2 r k) * Q (ix3 0 k o) := by
  pointwise [k0_pay71]

theorem pay75_apply (z : Fin 1) (r : Fin 1024) (l : Fin 128) :
    k0_pay75 (k0_pay73 C Q t0 t1) (k0_pay74 C Q) t2 (ix3 z r l)
      = turned 120 8 (fun n => k0_pay71 C Q (ix2 r ⟨n.val, by omega⟩)) (fun n => t0 (ix3 0 r n)) (fun n => t1 (ix3 0 r n)) (fun n => t2 (ix3 0 r n)) l := by
  unfold turned
  pointwise [k0_pay75, k0_pay74, k0_pay73, k0_pay72]
theorem pay76_apply (z : Fin 1) (r : Fin 1024) (l : Fin 128) :
    k0_pay76 A t0 t1 t2 (ix3 z r l)
      = turned 120 8 (fun n => A (ix2 r ⟨128 + n.val, by omega⟩)) (fun n => t0 (ix3 0 r n)) (fun n => t1 (ix3 0 r n)) (fun n => t2 (ix3 0 r n)) l := by
  unfold turned
  pointwise [k0_pay76]
theorem pay80_apply (z : Fin 1) (r : Fin 1024) (l : Fin 128) :
    k0_pay80 (k0_pay77 A) (k0_pay78 A t0) (k0_pay79 A) t1 t2 (ix3 z r l)
      = turned 120 8 (fun n => A (ix2 r ⟨256 + n.val, by omega⟩)) (fun n => t0 (ix3 0 r n)) (fun n => t1 (ix3 0 r n)) (fun n => t2 (ix3 0 r n)) l := by
  unfold turned
  pointwise [k0_pay80, k0_pay79, k0_pay78, k0_pay77]
theorem pay81_apply (z : Fin 1) (r : Fin 1024) (l : Fin 128) :
    k0_pay81 A t0 t1 t2 (ix3 z r l)
      = turned 120 8 (fun n => A (ix2 r ⟨384 + n.val, by omega⟩)) (fun n => t0 (ix3 0 r n)) (fun n => t1 (ix3 0 r n)) (fun n => t2 (ix3 0 r n)) l := by
  unfold turned
  pointwise [k0_pay81]

end

section
variable (C : FVec Ideal S1024x128 .bf16) (K : FVec Ideal S1024x128 .f32) (W : Vec Ideal S1x128x1024 .bf16) (A : FVec Ideal S1024x1024 .f32)
  (t0 t1 t2 : Vec Ideal S1x1024x128 .f32)

theorem pay86_apply (r o : Fin 1024) : k0_pay86 C W (ix2 r o) = ∑ k, C (ix2 r k) * W (ix3 0 k o) := by
  pointwise [k0_pay86]

theorem pay89_apply (z : Fin 1) (r : Fin 1024) (l : Fin 128) :
    k0_pay89 (k0_pay87 C K W) (k0_pay88 C K W t0 t1) t2 (ix3 z r l)
      = turned 120 8 (fun n => k0_pay86 C W (ix2 r ⟨n.val, by omega⟩) + K (ix2 r n)) (fun n => t0 (ix3 0 r n)) (fun n => t1 (ix3 0 r n))
          (fun n => t2 (ix3 0 r n)) l := by
  unfold turned
  pointwise [k0_pay89, k0_pay88, k0_pay87]
theorem pay94_apply (z : Fin 1) (r : Fin 1024) (l : Fin 128) :
    k0_pay94 (k0_pay92 K A t0 t1) (k0_pay93 K A t2) (ix3 z r l)
      = turned 120 8 (fun n => A (ix2 r ⟨128 + n.val, by omega⟩) + K (ix2 r n)) (fun n => t0 (ix3 0 r n)) (fun n => t1 (ix3 0 r n))
          (fun n => t2 (ix3 0 r n)) l := by
  unfold turned
  pointwise [k0_pay94, k0_pay93, k0_pay92, k0_pay91]
theorem pay96_apply (z : Fin 1) (r : Fin 1024) (l : Fin 128) :
    k0_pay96 K A t0 t1 t2 (ix3 z r l)
      = turned 120 8 (fun n => A (ix2 r ⟨256 + n.val, by omega⟩) + K (ix2 r n)) (fun n => t0 (ix3 0 r n)) (fun n => t1 (ix3 0 r n))
          (fun n => t2 (ix3 0 r n)) l := by
  unfold turned
  pointwise [k0_pay96]
theorem pay98_apply (z : Fin 1) (r : Fin 1024) (l : Fin 128) :
    k0_pay98 K A t0 t1 t2 (ix3 z r l)
      = turned 120 8 (fun n => A (ix2 r ⟨384 + n.val, by omega⟩) + K (ix2 r n)) (fun n => t0 (ix3 0 r n)) (fun n => t1 (ix3 0 r n))
          (fun n => t2 (ix3 0 r n)) l := by
  unfold turned
  pointwise [k0_pay98]

end

/-! What the latent queries, keys and values are the products of. -/

/-- A row over the root of its mean square, scaled by a gain. -/
def scaled {n : ℕ} (N : EReal) (x g : Fin n → EReal) (o : Fin n) : EReal :=
  x o * Ideal.rsqrt (Ideal.div (∑ k, x k * x k) N + Ideal.ofBits .f32 897988541#32) * g o

section
variable (H : FVec Ideal S1024x1024 .bf16) (w : Vec Ideal S1x1024x256 .bf16)

theorem pay11_apply (r : Fin 1024) (l : Fin 128) :
    k0_pay11 H w (ix2 r l) = k0_pay63 H w (ix2 r ⟨128 + (l.val + 128 - 64) % 128, by omega⟩) := by
  pointwise [k0_pay11, k0_pay9, k0_pay63]

theorem pay10_apply (g : Vec Ideal S1x128 .f32) (r : Fin 1024) (o : Fin 128) :
    k0_pay10 H w g (ix2 r o) = scaled (Ideal.ofBits .f32 1124073472#32) (fun n : Fin 128 => k0_pay63 H w (ix2 r ⟨n.val, by omega⟩)) (fun n => g (ix2 0 n)) o := by
  unfold scaled
  pointwise [k0_pay10, k0_pay9, k0_pay63]

end

theorem pay8_apply (b0 : Vec Ideal S1x1024x1024 .f32) (b3 : Vec Ideal S1x1024 .f32) (b1 b2 : Vec Ideal S1x1x1024 .f32) (w : Vec Ideal S1x1024x256 .bf16)
    (g : Vec Ideal S1x256 .f32) (r : Fin 1024) (o : Fin 256) :
    k0_pay8 (k0_pay5 b0 b3 b1 b2 w) (k0_pay6 g) (k0_pay7 b0 b3 b1 b2 w) (FloatOps.ofBits .f32 1132462080#32) (ix2 r o)
      = scaled (Ideal.ofBits .f32 1132462080#32) (fun n => k0_pay63 (k0_pay4 b0 b3 b1 b2) w (ix2 r n)) (fun n => g (ix2 0 n)) o := by
  unfold scaled
  pointwise [k0_pay8, k0_pay7, k0_pay6, k0_pay5, k0_pay63]

end Cert.Inp

end
-- ==== Proof.InpTables.lean ====
module

public import proofs.«01_k».proof.Proof.InpArray
public import proofs.«01_k».proof.Proof.InpLanes

@[expose] public section

set_option maxRecDepth 16384

/-!
  The tables of the rotary embedding and the padded weights the host operations make, and the turns of a row's lanes with
  these tables.
-/

noncomputable section

namespace Cert.Inp

open Cert.Kernel3Ideal Cert.Kernel3Ideal.Gen Cert.Kernel3Ideal.Value Idealize.ShloMosaic Idealize.ShloMosaic.TcCoe Idealize.SL.Sem

/-- The angle of token `r` for the grid's row (`a = 0`) or column and the frequency `f` of as many as `w` says. -/
def angle (w : BitVec 32) (r a f : ℕ) : EReal :=
  (if a < 1 then (FloatOps.sitofp .f32 (BitVec.ofNat 32 (r / 64)) : Ideal .f32) else (FloatOps.sitofp .f32 (BitVec.ofNat 32 (r % 64)) : Ideal .f32))
    * Ideal.pow (Ideal.ofBits .f32 1176256512#32) (Ideal.div (-(FloatOps.sitofp .f32 (BitVec.ofNat 32 f) : Ideal .f32)) (Ideal.ofBits .f32 w))

/-- A head's `D` entries turned by the angles: pairs lie `h` entries apart. -/
def roped (D h : ℕ) (w : BitVec 32) (r : ℕ) (x : Fin D → EReal) (d : Fin D) : EReal :=
  if d.val / h % 2 < 1 then
    x d * Ideal.cos (angle w r (d.val / (2 * h)) (d.val % h)) - x ⟨(d.val + h) % D, Nat.mod_lt _ d.pos⟩ * Ideal.sin (angle w r (d.val / (2 * h)) (d.val % h))
  else
    x d * Ideal.cos (angle w r (d.val / (2 * h)) (d.val % h)) + x ⟨(d.val + D - h) % D, Nat.mod_lt _ d.pos⟩ * Ideal.sin (angle w r (d.val / (2 * h)) (d.val % h))

theorem turned_windowed (r : ℕ) (x a b c : Fin 128 → EReal)
    (ha : ∀ l : Fin 128, a l = Ideal.cos (angle 1098907648#32 r (l.val % 64 / 32) (l.val % 64 % 16)))
    (hb : ∀ l : Fin 128, b l = if l.val % 64 / 16 % 2 < 1 then -Ideal.sin (angle 1098907648#32 r (l.val % 64 / 32) (l.val % 64 % 16)) else 0)
    (hc : ∀ l : Fin 128, c l = if l.val % 64 / 16 % 2 < 1 then 0 else Ideal.sin (angle 1098907648#32 r (l.val % 64 / 32) (l.val % 64 % 16)))
    (e : ℕ) (he : e < 2) (d : Fin 64) :
    turned 112 16 x a b c ⟨64 * e + d.val, by omega⟩ = roped 64 16 1098907648#32 r (fun d => x ⟨64 * e + d.val, by omega⟩) d := by
  unfold turned roped
  rw [ha, hb, hc]
  have h1 : (64 * e + d.val) % 64 = d.val := by omega
  simp only [h1, Nat.reduceMul]
  split
  · rename_i h
    have hx : (⟨(64 * e + d.val + 128 - 112) % 128, by omega⟩ : Fin 128) = ⟨64 * e + (d.val + 16) % 64, by omega⟩ := Fin.ext (by dsimp only; omega)
    rw [mul_zero, add_zero, mul_neg, ← sub_eq_add_neg, hx]
  · rename_i h
    have hx : (⟨(64 * e + d.val + 128 - 16) % 128, by omega⟩ : Fin 128) = ⟨64 * e + (d.val + 64 - 16) % 64, by omega⟩ :=
      Fin.ext (by dsimp only; omega)
    rw [mul_zero, add_zero, hx]

theorem turned_latent (r : ℕ) (x a b c : Fin 128 → EReal)
    (ha : ∀ l : Fin 128, a l = if 64 ≤ l.val ∧ l.val - 64 < 32 then Ideal.cos (angle 1090519040#32 r ((l.val - 64) / 16) ((l.val - 64) % 8)) else 1)
    (hb : ∀ l : Fin 128, b l = if 64 ≤ l.val ∧ l.val - 64 < 32 then
      (if (l.val - 64) / 8 % 2 < 1 then -Ideal.sin (angle 1090519040#32 r ((l.val - 64) / 16) ((l.val - 64) % 8)) else 0) else 0)
    (hc : ∀ l : Fin 128, c l = if 64 ≤ l.val ∧ l.val - 64 < 32 then
      (if (l.val - 64) / 8 % 2 < 1 then 0 else Ideal.sin (angle 1090519040#32 r ((l.val - 64) / 16) ((l.val - 64) % 8))) else 0)
    (l : Fin 128) :
    turned 120 8 x a b c l = if h : 64 ≤ l.val ∧ l.val - 64 < 32 then
      roped 32 8 1090519040#32 r (fun d => x ⟨64 + d.val, by omega⟩) ⟨l.val - 64, h.2⟩ else x l := by
  unfold turned roped
  rw [ha, hb, hc]
  by_cases h : 64 ≤ l.val ∧ l.val - 64 < 32
  · have hl : (⟨64 + (l.val - 64), by omega⟩ : Fin 128) = l := Fin.ext (by show 64 + (l.val - 64) = l.val; omega)
    simp only [h, if_true, dif_pos, and_self, hl, Nat.reduceMul]
    split
    · rename_i h
      have hx : (⟨(l.val + 128 - 120) % 128, by omega⟩ : Fin 128) = ⟨64 + (l.val - 64 + 8) % 32, by omega⟩ := Fin.ext (by dsimp only; omega)
      rw [mul_zero, add_zero, mul_neg, ← sub_eq_add_neg, hx]
    · rename_i h
      have hx : (⟨(l.val + 128 - 8) % 128, by omega⟩ : Fin 128) = ⟨64 + (l.val - 64 + 32 - 8) % 32, by omega⟩ := Fin.ext (by dsimp only; omega)
      rw [mul_zero, add_zero, hx]
  · simp only [h, if_false, dif_neg, not_false_eq_true, mul_zero, add_zero, mul_one]

variable (m : (ℓ : Loc nD τ sig) → Buf (Elt Ideal) ℓ)

theorem one_word : id (constant (F := Ideal) S_ .f32 1065353216#32) (Shape.Idx.first h_S_) = (1 : EReal) := by
  show Ideal.ofBits .f32 0x3F800000#32 = 1
  simp [Ideal.ofBits, Ideal.ieee, -EReal.coe_mul]; norm_num
theorem zero_word : id (constant (F := Ideal) S_ .f32 0#32) (Shape.Idx.first h_S_) = (0 : EReal) := by
  show Ideal.ofBits .f32 0#32 = 0
  simp
theorem zero_int : (FloatOps.sitofp .f32 0#32 : Ideal .f32) = (0 : EReal) := by
  show ((((0#32 : BitVec 32).toInt : ℤ) : ℝ) : EReal) = 0
  simp

/-! The arrays the host operations write before the kernel runs. -/

theorem windowed_cos (c : Dev nD) (r : Fin 8192) (l : Fin 128) :
    V m c main_v57 (ix3 0 r l) = Ideal.cos (angle 1098907648#32 r.val (l.val % 64 / 32) (l.val % 64 % 16)) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil,
    List.cons_append, List.nil_append]
  repeat after_reads_at
  unfold angle
  simp only [ite_mul, dite_eq_ite, ite_self]

theorem windowed_sina (c : Dev nD) (r : Fin 8192) (l : Fin 128) :
    V m c main_v57 (ix3 1 r l) = if l.val % 64 / 16 % 2 < 1 then -Ideal.sin (angle 1098907648#32 r.val (l.val % 64 / 32) (l.val % 64 % 16)) else 0 := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil,
    List.cons_append, List.nil_append]
  repeat after_reads_at
  unfold angle
  simp only [ite_mul, dite_eq_ite, ite_self]

theorem windowed_sinb (c : Dev nD) (r : Fin 8192) (l : Fin 128) :
    V m c main_v57 (ix3 2 r l) = if l.val % 64 / 16 % 2 < 1 then 0 else Ideal.sin (angle 1098907648#32 r.val (l.val % 64 / 32) (l.val % 64 % 16)) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil,
    List.cons_append, List.nil_append]
  repeat after_reads_at
  unfold angle
  simp only [ite_mul, dite_eq_ite, ite_self]

theorem latent_cos (c : Dev nD) (r : Fin 8192) (l : Fin 128) :
    V m c main_v115 (ix3 0 r l) = if 64 ≤ l.val ∧ l.val - 64 < 32 then Ideal.cos (angle 1090519040#32 r.val ((l.val - 64) / 16) ((l.val - 64) % 8)) else 1 := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil,
    List.cons_append, List.nil_append]
  repeat after_reads_at
  unfold angle
  simp only [ite_mul, dite_eq_ite, ite_self]
  exact congrArg (ite _ _) one_word

theorem latent_sina (c : Dev nD) (r : Fin 8192) (l : Fin 128) :
    V m c main_v115 (ix3 1 r l) = if 64 ≤ l.val ∧ l.val - 64 < 32 then (if (l.val - 64) / 8 % 2 < 1 then -Ideal.sin (angle 1090519040#32 r.val ((l.val - 64) / 16) ((l.val - 64) % 8)) else 0) else 0 := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil,
    List.cons_append, List.nil_append]
  repeat after_reads_at
  unfold angle
  simp only [ite_mul, dite_eq_ite, ite_self]
  exact congrArg (ite _ _) zero_word

theorem latent_sinb (c : Dev nD) (r : Fin 8192) (l : Fin 128) :
    V m c main_v115 (ix3 2 r l) = if 64 ≤ l.val ∧ l.val - 64 < 32 then (if (l.val - 64) / 8 % 2 < 1 then 0 else Ideal.sin (angle 1090519040#32 r.val ((l.val - 64) / 16) ((l.val - 64) % 8))) else 0 := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil,
    List.cons_append, List.nil_append]
  repeat after_reads_at
  unfold angle
  simp only [ite_mul, dite_eq_ite, ite_self]
  exact congrArg (ite _ _) zero_word

theorem query_gain (c : Dev nD) (k : Fin 256) :
    V m c main_v140 (ix2 0 k) = m ((c : Thread nD τ).loc main_arg5) (ix2 0 k) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil,
    List.cons_append, List.nil_append]
  repeat after_reads_at

theorem latent_gain (c : Dev nD) (k : Fin 128) :
    V m c main_v143 (ix2 0 k) = m ((c : Thread nD τ).loc main_arg7) (ix2 0 k) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil,
    List.cons_append, List.nil_append]
  repeat after_reads_at

theorem weight_pad (c : Dev nD) (a : Fin 4) (k : Fin 1024) (n : Fin 2560) (hn : 2464 ≤ n.val) :
    V m c main_v117 (ix3 a k n) = (0 : EReal) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil,
    List.cons_append, List.nil_append]
  repeat after_reads_at
  exact (dif_neg (by omega)).trans zero_int

theorem query_weight (c : Dev nD) (a : Fin 4) (k : Fin 256) (n : Fin 512) (h : n.val % 128 < 96) :
    V m c main_v121 (ix3 a k n) = m ((c : Thread nD τ).loc main_arg6) (ix3 a k ⟨n.val / 128 * 96 + n.val % 128, by omega⟩) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil,
    List.cons_append, List.nil_append]
  repeat after_reads_at
  refine (dif_pos ⟨by omega, by omega⟩).trans ?_
  rfl

theorem query_pad (c : Dev nD) (a : Fin 4) (k : Fin 256) (n : Fin 512) (h : ¬ n.val % 128 < 96) :
    V m c main_v121 (ix3 a k n) = (0 : EReal) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil,
    List.cons_append, List.nil_append]
  repeat after_reads_at
  exact (dif_neg (fun j => h (by omega))).trans zero_int

theorem key_weight (c : Dev nD) (a : Fin 4) (k : Fin 128) (n : Fin 512) (h : n.val % 128 < 64) :
    V m c main_v134 (ix3 a k ⟨n.val, by omega⟩) = m ((c : Thread nD τ).loc main_arg8) (ix3 a k ⟨n.val / 128 * 128 + n.val % 128, by omega⟩) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil,
    List.cons_append, List.nil_append]
  repeat after_reads_at
  refine (dif_pos ⟨by omega, by omega⟩).trans ?_
  exact congrArg (m ((c : Thread nD τ).loc main_arg8)) (congrArg (ix3 a k) (Fin.ext (by dsimp only; omega)))

theorem key_pad (c : Dev nD) (a : Fin 4) (k : Fin 128) (n : Fin 512) (h : ¬ n.val % 128 < 64) :
    V m c main_v134 (ix3 a k ⟨n.val, by omega⟩) = (0 : EReal) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil,
    List.cons_append, List.nil_append]
  repeat after_reads_at
  exact (dif_neg (fun j => h (by omega))).trans zero_int

theorem value_weight (c : Dev nD) (a : Fin 4) (k : Fin 128) (n : Fin 512) (h : n.val % 128 < 64) :
    V m c main_v134 (ix3 a k ⟨512 + n.val, by omega⟩) = m ((c : Thread nD τ).loc main_arg8) (ix3 a k ⟨n.val / 128 * 128 + 64 + n.val % 128, by omega⟩) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil,
    List.cons_append, List.nil_append]
  repeat after_reads_at
  refine (dif_pos ⟨by omega, by omega⟩).trans ?_
  exact congrArg (m ((c : Thread nD τ).loc main_arg8)) (congrArg (ix3 a k) (Fin.ext (by dsimp only; omega)))

theorem value_pad (c : Dev nD) (a : Fin 4) (k : Fin 128) (n : Fin 512) (h : ¬ n.val % 128 < 64) :
    V m c main_v134 (ix3 a k ⟨512 + n.val, by omega⟩) = (0 : EReal) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil,
    List.cons_append, List.nil_append]
  repeat after_reads_at
  exact (dif_neg (fun j => h (by omega))).trans zero_int

end Cert.Inp

end
-- ==== Proof.InpHeads.lean ====
module

public import proofs.«01_k».proof.Proof.InpTables

@[expose] public section

set_option maxRecDepth 16384

/-!
  What the input projection's windowed and latent result arrays hold, head by head.
-/

noncomputable section

namespace Cert.Inp

open Cert.Kernel3Ideal Cert.Kernel3Ideal.Gen Cert.Kernel3Ideal.Value Idealize.ShloMosaic Idealize.ShloMosaic.TcCoe Idealize.SL.Sem

/-! What the 128 lanes of a head hold. -/

/-- 64 values, a 1, zeros. -/
def valueLane (x : Fin 64 → EReal) (l : Fin 128) : EReal := if h : l.val < 64 then x ⟨l.val, h⟩ else if l.val = 64 then 1 else 0

/-- 64 entries, turned, then zeros. -/
def windowedLane (r : ℕ) (x : Fin 64 → EReal) (l : Fin 128) : EReal :=
  if h : l.val < 64 then roped 64 16 1098907648#32 r x ⟨l.val, h⟩ else 0

/-- 64 entries as they are, 32 entries turned, then zeros. -/
def latentLane (r : ℕ) (x : Fin 64 → EReal) (y : Fin 32 → EReal) (l : Fin 128) : EReal :=
  if h : l.val < 64 then x ⟨l.val, h⟩ else if h : l.val - 64 < 32 then roped 32 8 1090519040#32 r y ⟨l.val - 64, h⟩ else 0

/-! A block written head by head. -/

section
variable {e : EltTy}

theorem pieces2 (P0 P1 : S1x1024x128.Idx → Elt Ideal e) (G : S1x1024x256.Idx → Elt Ideal e) (p0 p1)
    (h0 : ∀ r l, P0 (ix3 0 r l) = G (ix3 0 r ⟨128 * (0 : Fin 2).val + l.val, by omega⟩)) (h1 : ∀ r l, P1 (ix3 0 r l) = G (ix3 0 r ⟨128 * (1 : Fin 2).val + l.val, by omega⟩))
    (y : S1x1024x256.Idx) :
    View.canon (Val := Elt Ideal) [⟨Rect.unit (s := S1x1024x256) ![0, 0, 128] ![1, 1024, 128] p1, P1⟩, ⟨Rect.unit (s := S1x1024x256) ![0, 0, 0] ![1, 1024, 128] p0, P0⟩] y = G y := by
  refine View.canon_apply_of_pieces G _ (fun p hp j => ?_) y ?_
  · simp only [List.mem_cons, List.mem_nil_iff, or_false] at hp
    rcases hp with rfl | rfl
    · obtain ⟨z, r, l, rfl⟩ : ∃ (z : Fin 1) (r : Fin 1024) (l : Fin 128), j = ix3 z r l := ⟨j 0, j 1, j 2, eq_ix3 j⟩
      obtain rfl : z = 0 := Subsingleton.elim _ _
      exact (h1 r l).trans (congrArg G (by blk_ext))
    · obtain ⟨z, r, l, rfl⟩ : ∃ (z : Fin 1) (r : Fin 1024) (l : Fin 128), j = ix3 z r l := ⟨j 0, j 1, j 2, eq_ix3 j⟩
      obtain rfl : z = 0 := Subsingleton.elim _ _
      exact (h0 r l).trans (congrArg G (by blk_ext))
  · simp only [List.exists_mem_cons_iff, Rect.mem_set_unit, List.not_mem_nil, false_and, exists_false, or_false]
    have a0 : (y 0).val < 1 := (y 0).isLt
    have a1 : (y 1).val < 1024 := (y 1).isLt
    have a2 : (y 2).val < 256 := (y 2).isLt
    by_cases h : (y 2).val < 128
    · right
      intro a
      fin_cases a <;> simp <;> omega
    · left
      intro a
      fin_cases a <;> simp <;> omega

theorem pieces4 (P0 P1 P2 P3 : S1x1024x128.Idx → Elt Ideal e) (G : S1x1024x512.Idx → Elt Ideal e) (p0 p1 p2 p3)
    (h0 : ∀ r l, P0 (ix3 0 r l) = G (ix3 0 r ⟨128 * (0 : Fin 4).val + l.val, by omega⟩)) (h1 : ∀ r l, P1 (ix3 0 r l) = G (ix3 0 r ⟨128 * (1 : Fin 4).val + l.val, by omega⟩))
    (h2 : ∀ r l, P2 (ix3 0 r l) = G (ix3 0 r ⟨128 * (2 : Fin 4).val + l.val, by omega⟩)) (h3 : ∀ r l, P3 (ix3 0 r l) = G (ix3 0 r ⟨128 * (3 : Fin 4).val + l.val, by omega⟩))
    (y : S1x1024x512.Idx) :
    View.canon (Val := Elt Ideal) [⟨Rect.unit (s := S1x1024x512) ![0, 0, 384] ![1, 1024, 128] p3, P3⟩, ⟨Rect.unit (s := S1x1024x512) ![0, 0, 256] ![1, 1024, 128] p2, P2⟩,
      ⟨Rect.unit (s := S1x1024x512) ![0, 0, 128] ![1, 1024, 128] p1, P1⟩, ⟨Rect.unit (s := S1x1024x512) ![0, 0, 0] ![1, 1024, 128] p0, P0⟩] y = G y := by
  refine View.canon_apply_of_pieces G _ (fun p hp j => ?_) y ?_
  · simp only [List.mem_cons, List.mem_nil_iff, or_false] at hp
    rcases hp with rfl | rfl | rfl | rfl <;>
      obtain ⟨z, r, l, rfl⟩ : ∃ (z : Fin 1) (r : Fin 1024) (l : Fin 128), j = ix3 z r l := ⟨j 0, j 1, j 2, eq_ix3 j⟩ <;>
      obtain rfl : z = 0 := Subsingleton.elim _ _
    · exact (h3 r l).trans (congrArg G (by blk_ext))
    · exact (h2 r l).trans (congrArg G (by blk_ext))
    · exact (h1 r l).trans (congrArg G (by blk_ext))
    · exact (h0 r l).trans (congrArg G (by blk_ext))
  · simp only [List.exists_mem_cons_iff, Rect.mem_set_unit, List.not_mem_nil, false_and, exists_false, or_false]
    have a0 : (y 0).val < 1 := (y 0).isLt
    have a1 : (y 1).val < 1024 := (y 1).isLt
    have a2 : (y 2).val < 512 := (y 2).isLt
    have hc : (y 2).val < 128 ∨ (128 ≤ (y 2).val ∧ (y 2).val < 256) ∨ (256 ≤ (y 2).val ∧ (y 2).val < 384) ∨ 384 ≤ (y 2).val := by omega
    rcases hc with h | h | h | h
    · right; right; right
      intro a
      fin_cases a <;> simp <;> omega
    · right; right; left
      intro a
      fin_cases a <;> simp <;> omega
    · right; left
      intro a
      fin_cases a <;> simp <;> omega
    · left
      intro a
      fin_cases a <;> simp <;> omega

end

variable (m : (ℓ : Loc nD τ sig) → Buf (Elt Ideal) ℓ)

theorem index5 : ∀ t : Fin cfg0.N, win0_5.index t = ![0, (grid0.coords t 0).val, 0] := (by decide +kernel : ∀ t : Fin grid0.N, _)
theorem index6 : ∀ t : Fin cfg0.N, win0_6.index t = ![0, (grid0.coords t 0).val, 0] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![0, 0, 0] := (by decide +kernel : ∀ t : Fin grid0.N, _)
theorem index9 : ∀ t : Fin cfg0.N, win0_9.index t = ![0, 0] := (by decide +kernel : ∀ t : Fin grid0.N, _)
theorem index10 : ∀ t : Fin cfg0.N, win0_10.index t = ![0, 0, 0] := (by decide +kernel : ∀ t : Fin grid0.N, _)
theorem index12 : ∀ t : Fin cfg0.N, win0_12.index t = ![(grid0.coords t 1).val, (grid0.coords t 0).val, 0] := (by decide +kernel : ∀ t : Fin grid0.N, _)
theorem index13 : ∀ t : Fin cfg0.N, win0_13.index t = ![(grid0.coords t 1).val, (grid0.coords t 0).val, 0] := (by decide +kernel : ∀ t : Fin grid0.N, _)
theorem index14 : ∀ t : Fin cfg0.N, win0_14.index t = ![(grid0.coords t 1).val, (grid0.coords t 0).val, 0] := (by decide +kernel : ∀ t : Fin grid0.N, _)
theorem index20 : ∀ t : Fin cfg0.N, win0_20.index t = ![(grid0.coords t 1).val, (grid0.coords t 0).val, 0] := (by decide +kernel : ∀ t : Fin grid0.N, _)
theorem index21 : ∀ t : Fin cfg0.N, win0_21.index t = ![(grid0.coords t 1).val, (grid0.coords t 0).val, 0] := (by decide +kernel : ∀ t : Fin grid0.N, _)
theorem index22 : ∀ t : Fin cfg0.N, win0_22.index t = ![(grid0.coords t 1).val, (grid0.coords t 0).val, 0] := (by decide +kernel : ∀ t : Fin grid0.N, _)

/-- An entry of a block's product with 256 columns. -/
theorem column_block (c : Dev nD) (t : Fin cfg0.N) (r : Fin 1024) (o : Fin 256) (n : ℕ)
    (p : ∀ a, (![0, 0, n] : Fin 3 → ℕ) a + (![1, 1024, 256] : Fin 3 → ℕ) a ≤ S1x1024x2560.size a) (hn : n + o.val < 2464) :
    k0_pay63 (rows m c t) (View.ld (iblk m c 4 t) (Rect.unit ![0, 0, n] ![1, 1024, 256] p)) (ix2 r o)
      = col m c (batch t) (token t r) ⟨n + o.val, hn⟩ :=
  (pay63_apply _ _ r o).trans (col_block m c t r o n p hn)

theorem windowed_block (c : Dev nD) (t : Fin cfg0.N) (i : Fin 3) (r : Fin 1024) (l : Fin 128)
    (p : ∀ a, (![i.val, 0, 0] : Fin 3 → ℕ) a + (![1, 1024, 128] : Fin 3 → ℕ) a ≤ S3x1024x128.size a) :
    View.ld (iblk m c 5 t) (Rect.unit ![i.val, 0, 0] ![1, 1024, 128] p) (ix3 0 r l) = V m c main_v57 (ix3 i (token t r) l) := by
  rw [View.ld_unit_apply_of _ (i := ix3 i r l) (hi := fun a => by fin_cases a <;> simp [ix3])]
  blk_simp [iblk]
  exact congrArg _ (by blk_ext [index5, token])

theorem latent_block (c : Dev nD) (t : Fin cfg0.N) (i : Fin 3) (r : Fin 1024) (l : Fin 128)
    (p : ∀ a, (![i.val, 0, 0] : Fin 3 → ℕ) a + (![1, 1024, 128] : Fin 3 → ℕ) a ≤ S3x1024x128.size a) :
    View.ld (iblk m c 6 t) (Rect.unit ![i.val, 0, 0] ![1, 1024, 128] p) (ix3 0 r l) = V m c main_v115 (ix3 i (token t r) l) := by
  rw [View.ld_unit_apply_of _ (i := ix3 i r l) (hi := fun a => by fin_cases a <;> simp [ix3])]
  blk_simp [iblk]
  exact congrArg _ (by blk_ext [index6, token])

/-! Where a block's entries lie in the result arrays. -/

theorem place12 (t : Fin cfg0.N) (r : Fin 1024) (n : Fin 512) :
    ((View.whole main_v144_1).slice (win0_12.rect t)).emb (ix3 0 r n) = ix3 (batch t) (token t r) n := by
  blk_ext [index12, batch, token]
theorem place13 (t : Fin cfg0.N) (r : Fin 1024) (n : Fin 256) :
    ((View.whole main_v144_2).slice (win0_13.rect t)).emb (ix3 0 r n) = ix3 (batch t) (token t r) n := by
  blk_ext [index13, batch, token]
theorem place14 (t : Fin cfg0.N) (r : Fin 1024) (n : Fin 256) :
    ((View.whole main_v144_3).slice (win0_14.rect t)).emb (ix3 0 r n) = ix3 (batch t) (token t r) n := by
  blk_ext [index14, batch, token]
theorem place20 (t : Fin cfg0.N) (r : Fin 1024) (n : Fin 512) :
    ((View.whole main_v144_9).slice (win0_20.rect t)).emb (ix3 0 r n) = ix3 (batch t) (token t r) n := by
  blk_ext [index20, batch, token]
theorem place21 (t : Fin cfg0.N) (r : Fin 1024) (n : Fin 512) :
    ((View.whole main_v144_10).slice (win0_21.rect t)).emb (ix3 0 r n) = ix3 (batch t) (token t r) n := by
  blk_ext [index21, batch, token]
theorem place22 (t : Fin cfg0.N) (r : Fin 1024) (n : Fin 512) :
    ((View.whole main_v144_11).slice (win0_22.rect t)).emb (ix3 0 r n) = ix3 (batch t) (token t r) n := by
  blk_ext [index22, batch, token]

/-! The windowed values. -/

theorem array14_eq (c : Dev nD) (G : FVec Ideal S4x8192x256 .bf16)
    (hG : ∀ (b : Fin 4) (r : Fin 8192) (e : Fin 2) (l : Fin 128),
      G (ix3 b r ⟨128 * e.val + l.val, by omega⟩) = valueLane (fun d => col m c b r ⟨640 + (64 * e.val + d.val), by omega⟩) l) :
    (dats m 0 c).arrAt 14 cfg0.N = G := by
  refine (dats m 0 c).arrAt_eq_of_covers 14 G (by decide +kernel) fun t hf y => ?_
  blk_simp
  rw [after0_14]
  unfold outsAt0
  frame_open
  frame_out
  refine pieces2 (e := .bf16) _ _ (fun y => G (((View.whole main_v144_3).slice (win0_14.rect t)).emb y)) _ _ (fun r l => ?_) (fun r l => ?_) y
  · refine Eq.trans ?_ ((congrArg G (place14 t r _)).trans (hG _ _ 0 l)).symm
    refine (pay69_apply _ 0 r l).trans ?_
    unfold valueLane
    split
    · exact (column_block m c t r ⟨128 + l.val, by omega⟩ 512 _ (by dsimp only; omega)).trans (congrArg _ (Fin.ext (by dsimp only; omega)))
    · rfl
  · refine Eq.trans ?_ ((congrArg G (place14 t r _)).trans (hG _ _ 1 l)).symm
    refine (pay70_apply _ 0 r l).trans ?_
    unfold valueLane
    split
    · exact (column_block m c t r ⟨128 + (l.val + 128 - 64) % 128, by omega⟩ 512 _ (by dsimp only; omega)).trans (congrArg _ (Fin.ext (by dsimp only; omega)))
    · rfl

end Cert.Inp
-- ==== Proof.InpHeads2.lean ====
module

public import proofs.«01_k».proof.Proof.InpHeads

@[expose] public section

set_option maxRecDepth 16384

/-!
  The input projection's windowed queries and keys, and its latent queries, keys and values, head by head.
-/

noncomputable section

namespace Cert.Inp

open Cert.Kernel3Ideal Cert.Kernel3Ideal.Gen Cert.Kernel3Ideal.Value Idealize.ShloMosaic Idealize.ShloMosaic.TcCoe Idealize.SL.Sem

/-- The keys' and values' second layer: a row's latent part, normalized and scaled, times a column. -/
def keyColumn (P : Fin 2464 → EReal) (g : FVec Ideal S4x128 .f32) (W : FVec Ideal S4x128x512 .f32) (n : Fin 512) : EReal :=
  ∑ k : Fin 128, scaled (Ideal.ofBits .f32 1124073472#32) (fun n : Fin 128 => P ⟨2304 + n.val, by omega⟩) (fun k => g (ix2 0 k)) k * W (ix3 0 k n)

/-- The queries' second layer. -/
def queryColumn (P : Fin 2464 → EReal) (g : FVec Ideal S4x256 .f32) (W : FVec Ideal S4x256x384 .f32) (n : Fin 384) : EReal :=
  ∑ k : Fin 256, scaled (Ideal.ofBits .f32 1132462080#32) (fun n : Fin 256 => P ⟨2048 + n.val, by omega⟩) (fun k => g (ix2 0 k)) k * W (ix3 0 k n)

variable (m : (ℓ : Loc nD τ sig) → Buf (Elt Ideal) ℓ)

/-! The windowed queries and keys. -/

theorem windowed_head (c : Dev nD) (t : Fin cfg0.N) (r : Fin 1024) (p0 p1 p2) (x : Fin 128 → EReal) (X : Fin 64 → EReal) (e : ℕ) (he : e < 2)
    (hx : ∀ d : Fin 64, x ⟨64 * e + d.val, by omega⟩ = X d) (l n : Fin 128) (hn : l.val < 64 → n.val = 64 * e + l.val) :
    (if l.val < 64 then turned 112 16 x
        (fun n => View.ld (iblk m c 5 t) (Rect.unit ![0, 0, 0] ![1, 1024, 128] p0) (ix3 0 r n))
        (fun n => View.ld (iblk m c 5 t) (Rect.unit ![1, 0, 0] ![1, 1024, 128] p1) (ix3 0 r n))
        (fun n => View.ld (iblk m c 5 t) (Rect.unit ![2, 0, 0] ![1, 1024, 128] p2) (ix3 0 r n)) n else 0)
      = windowedLane (token t r).val X l := by
  unfold windowedLane
  split
  · rename_i h
    obtain rfl : n = ⟨64 * e + (⟨l.val, h⟩ : Fin 64).val, by dsimp only; omega⟩ := Fin.ext (hn h)
    refine (turned_windowed (token t r).val x _ _ _ (fun n => ?_) (fun n => ?_) (fun n => ?_) e he ⟨l.val, h⟩).trans ?_
    · exact (windowed_block m c t 0 r n p0).trans (windowed_cos m c _ n)
    · exact (windowed_block m c t 1 r n p1).trans (windowed_sina m c _ n)
    · exact (windowed_block m c t 2 r n p2).trans (windowed_sinb m c _ n)
    · exact congrArg (fun X => roped 64 16 1098907648#32 (token t r).val X ⟨l.val, h⟩) (funext hx)
  · rfl

section
variable (c : Dev nD) (t : Fin cfg0.N) (r : Fin 1024) (l : Fin 128) (N : ℕ)
  (p : ∀ a, (![0, 0, N] : Fin 3 → ℕ) a + (![1, 1024, 256] : Fin 3 → ℕ) a ≤ S1x1024x2560.size a) (p0 p1 p2)

theorem head0 (hN : N + 128 ≤ 2464) :
    k0_pay66 (rows m c t) k0_pay51 (View.ld (iblk m c 4 t) (Rect.unit ![0, 0, N] ![1, 1024, 256] p))
        (View.ld (iblk m c 5 t) (Rect.unit ![0, 0, 0] ![1, 1024, 128] p0)) (View.ld (iblk m c 5 t) (Rect.unit ![1, 0, 0] ![1, 1024, 128] p1))
        (View.ld (iblk m c 5 t) (Rect.unit ![2, 0, 0] ![1, 1024, 128] p2)) (ix3 0 r l)
      = windowedLane (token t r).val (fun d => col m c (batch t) (token t r) ⟨N + (64 * 0 + d.val), by omega⟩) l :=
  (pay66_apply _ _ _ _ _ 0 r l).trans (windowed_head m c t r _ _ _ _ _ 0 (by omega) (fun d => column_block m c t r ⟨_, _⟩ N _ (by dsimp only; omega)) l l (by omega))

theorem head1 (hN : N + 128 ≤ 2464) :
    k0_pay67 (k0_pay65 (rows m c t) k0_pay51 (View.ld (iblk m c 4 t) (Rect.unit ![0, 0, N] ![1, 1024, 256] p))
        (View.ld (iblk m c 5 t) (Rect.unit ![0, 0, 0] ![1, 1024, 128] p0)) (View.ld (iblk m c 5 t) (Rect.unit ![1, 0, 0] ![1, 1024, 128] p1))
        (View.ld (iblk m c 5 t) (Rect.unit ![2, 0, 0] ![1, 1024, 128] p2))) (ix3 0 r l)
      = windowedLane (token t r).val (fun d => col m c (batch t) (token t r) ⟨N + (64 * 1 + d.val), by omega⟩) l :=
  (pay67_apply _ _ _ _ _ 0 r l).trans (windowed_head m c t r _ _ _ _ _ 1 (by omega) (fun d => column_block m c t r ⟨_, _⟩ N _ (by dsimp only; omega)) l _ (by dsimp only; omega))

theorem head2 (hN : N + 256 ≤ 2464) :
    k0_pay61 k0_pay51 (k0_pay53 (rows m c t) (View.ld (iblk m c 4 t) (Rect.unit ![0, 0, N] ![1, 1024, 256] p)))
        (View.ld (iblk m c 5 t) (Rect.unit ![0, 0, 0] ![1, 1024, 128] p0)) (View.ld (iblk m c 5 t) (Rect.unit ![1, 0, 0] ![1, 1024, 128] p1))
        (View.ld (iblk m c 5 t) (Rect.unit ![2, 0, 0] ![1, 1024, 128] p2)) (ix3 0 r l)
      = windowedLane (token t r).val (fun d => col m c (batch t) (token t r) ⟨N + (64 * 2 + d.val), by omega⟩) l := by
  refine (pay61_apply _ _ _ _ 0 r l).trans (windowed_head m c t r _ _ _ _ _ 0 (by omega) (fun d => ?_) l l (by omega))
  refine (congrFun (pay53_eq _ _) _).trans ((column_block m c t r ⟨_, _⟩ N _ (by dsimp only; omega)).trans ?_)
  exact congrArg _ (Fin.ext (by dsimp only; omega))

theorem head3 (hN : N + 256 ≤ 2464) :
    k0_pay62 (k0_pay60 k0_pay51 (k0_pay53 (rows m c t) (View.ld (iblk m c 4 t) (Rect.unit ![0, 0, N] ![1, 1024, 256] p)))
        (View.ld (iblk m c 5 t) (Rect.unit ![0, 0, 0] ![1, 1024, 128] p0)) (View.ld (iblk m c 5 t) (Rect.unit ![1, 0, 0] ![1, 1024, 128] p1))
        (View.ld (iblk m c 5 t) (Rect.unit ![2, 0, 0] ![1, 1024, 128] p2))) (ix3 0 r l)
      = windowedLane (token t r).val (fun d => col m c (batch t) (token t r) ⟨N + (64 * 3 + d.val), by omega⟩) l := by
  refine (pay62_apply _ _ _ _ 0 r l).trans (windowed_head m c t r _ _ _ _ _ 1 (by omega) (fun d => ?_) l _ (by dsimp only; omega))
  refine (congrFun (pay53_eq _ _) _).trans ((column_block m c t r ⟨_, _⟩ N _ (by dsimp only; omega)).trans ?_)
  exact congrArg _ (Fin.ext (by dsimp only; omega))

end

theorem array13_eq (c : Dev nD) (G : FVec Ideal S4x8192x256 .bf16)
    (hG : ∀ (b : Fin 4) (r : Fin 8192) (e : Fin 2) (l : Fin 128),
      G (ix3 b r ⟨128 * e.val + l.val, by omega⟩) = windowedLane r.val (fun d => col m c b r ⟨512 + (64 * e.val + d.val), by omega⟩) l) :
    (dats m 0 c).arrAt 13 cfg0.N = G := by
  refine (dats m 0 c).arrAt_eq_of_covers 13 G (by decide +kernel) fun t hf y => ?_
  blk_simp
  rw [after0_13]
  unfold outsAt0
  frame_open
  frame_out
  refine pieces2 (e := .bf16) _ _ (fun y => G (((View.whole main_v144_2).slice (win0_13.rect t)).emb y)) _ _ (fun r l => ?_) (fun r l => ?_) y
  · refine Eq.trans ?_ ((congrArg G (place13 t r _)).trans (hG _ _ 0 l)).symm
    exact head0 m c t r l 512 _ _ _ _ (by decide)
  · refine Eq.trans ?_ ((congrArg G (place13 t r _)).trans (hG _ _ 1 l)).symm
    exact head1 m c t r l 512 _ _ _ _ (by decide)

theorem array12_eq (c : Dev nD) (G : FVec Ideal S4x8192x512 .bf16)
    (hG : ∀ (b : Fin 4) (r : Fin 8192) (e : Fin 4) (l : Fin 128),
      G (ix3 b r ⟨128 * e.val + l.val, by omega⟩) = windowedLane r.val (fun d => col m c b r ⟨256 + (64 * e.val + d.val), by omega⟩) l) :
    (dats m 0 c).arrAt 12 cfg0.N = G := by
  refine (dats m 0 c).arrAt_eq_of_covers 12 G (by decide +kernel) fun t hf y => ?_
  blk_simp
  rw [after0_12]
  unfold outsAt0
  frame_open
  frame_out
  refine pieces4 (e := .bf16) _ _ _ _ (fun y => G (((View.whole main_v144_1).slice (win0_12.rect t)).emb y)) _ _ _ _ (fun r l => ?_) (fun r l => ?_) (fun r l => ?_)
    (fun r l => ?_) y
  · refine Eq.trans ?_ ((congrArg G (place12 t r _)).trans (hG _ _ 0 l)).symm
    exact (congrFun (pay57_eq _ _ _ _ _) _).trans (head0 m c t r l 256 _ _ _ _ (by decide))
  · refine Eq.trans ?_ ((congrArg G (place12 t r _)).trans (hG _ _ 1 l)).symm
    exact (congrFun (pay58_eq _ _ _ _ _) _).trans (head1 m c t r l 256 _ _ _ _ (by decide))
  · refine Eq.trans ?_ ((congrArg G (place12 t r _)).trans (hG _ _ 2 l)).symm
    exact head2 m c t r l 256 _ _ _ _ (by decide)
  · refine Eq.trans ?_ ((congrArg G (place12 t r _)).trans (hG _ _ 3 l)).symm
    exact head3 m c t r l 256 _ _ _ _ (by decide)

end Cert.Inp
-- ==== Proof.InpHeads3.lean ====
module

public import proofs.«01_k».proof.Proof.InpHeads2

@[expose] public section

set_option maxRecDepth 16384

/-!
  The input projection's latent queries, keys and values, head by head.
-/

noncomputable section

namespace Cert.Inp

open Cert.Kernel3Ideal Cert.Kernel3Ideal.Gen Cert.Kernel3Ideal.Value Idealize.ShloMosaic Idealize.ShloMosaic.TcCoe Idealize.SL.Sem

variable (m : (ℓ : Loc nD τ sig) → Buf (Elt Ideal) ℓ)

theorem key_zero (c : Dev nD) (t : Fin cfg0.N) (r : Fin 1024) (o : Fin 256) (n : ℕ)
    (p : ∀ a, (![0, 0, n] : Fin 3 → ℕ) a + (![1, 1024, 256] : Fin 3 → ℕ) a ≤ S1x1024x2560.size a) (hn : 2464 ≤ n + o.val) (hn' : n + o.val < 2560) :
    k0_pay63 (rows m c t) (View.ld (iblk m c 4 t) (Rect.unit ![0, 0, n] ![1, 1024, 256] p)) (ix2 r o) = 0 := by
  refine (pay63_apply _ _ r o).trans (Finset.sum_eq_zero fun k _ => ?_)
  rw [View.ld_unit_apply_of _ (i := ix3 0 k ⟨n + o.val, hn'⟩) (hi := fun a => by fin_cases a <;> simp [ix3])]
  refine (congrArg (fun y : EReal => rows m c t (ix2 r k) * y) (?_ : _ = (0 : EReal))).trans (mul_zero _)
  refine Eq.trans ?_ (weight_pad m c 0 k ⟨n + o.val, hn'⟩ hn)
  blk_simp [iblk]
  exact congrArg _ (by blk_ext [index4])

theorem latent_head (c : Dev nD) (t : Fin cfg0.N) (r : Fin 1024) (p0 p1 p2) (x : Fin 128 → EReal) (X : Fin 64 → EReal) (Y : Fin 32 → EReal)
    (hX : ∀ d : Fin 64, x ⟨d.val, by omega⟩ = X d) (hY : ∀ d : Fin 32, x ⟨64 + d.val, by omega⟩ = Y d) (hZ : ∀ n : Fin 128, 96 ≤ n.val → x n = 0) (l : Fin 128) :
    turned 120 8 x
        (fun n => View.ld (iblk m c 6 t) (Rect.unit ![0, 0, 0] ![1, 1024, 128] p0) (ix3 0 r n))
        (fun n => View.ld (iblk m c 6 t) (Rect.unit ![1, 0, 0] ![1, 1024, 128] p1) (ix3 0 r n))
        (fun n => View.ld (iblk m c 6 t) (Rect.unit ![2, 0, 0] ![1, 1024, 128] p2) (ix3 0 r n)) l
      = latentLane (token t r).val X Y l := by
  refine (turned_latent (token t r).val x _ _ _ (fun n => ?_) (fun n => ?_) (fun n => ?_) l).trans ?_
  · exact (latent_block m c t 0 r n p0).trans (latent_cos m c _ n)
  · exact (latent_block m c t 1 r n p1).trans (latent_sina m c _ n)
  · exact (latent_block m c t 2 r n p2).trans (latent_sinb m c _ n)
  · unfold latentLane
    by_cases h : l.val < 64
    · exact (dif_neg (by omega)).trans ((hX ⟨l.val, h⟩).trans (by rw [dif_pos h]))
    · by_cases h' : l.val - 64 < 32
      · exact (dif_pos ⟨by omega, h'⟩).trans ((congrArg (fun Y => roped 32 8 1090519040#32 (token t r).val Y ⟨l.val - 64, h'⟩) (funext hY)).trans
          (by rw [dif_neg h, dif_pos h']))
      · exact (dif_neg (by omega)).trans ((hZ l (by omega)).trans (by rw [dif_neg h, dif_neg h']))

/-! The second layers, from the arrays. -/

/-- A column of the keys' and values' second layer. -/
def keyCol (c : Dev nD) (b : Fin 4) (r : Fin 8192) (n : Fin 512) : EReal :=
  keyColumn (col m c b r) (m ((c : Thread nD τ).loc main_arg7)) (m ((c : Thread nD τ).loc main_arg8)) n

/-- A column of the queries' second layer. -/
def queryCol (c : Dev nD) (b : Fin 4) (r : Fin 8192) (n : Fin 384) : EReal :=
  queryColumn (col m c b r) (m ((c : Thread nD τ).loc main_arg5)) (m ((c : Thread nD τ).loc main_arg6)) n

section
variable (c : Dev nD) (t : Fin cfg0.N) (r : Fin 1024)

theorem gain_query (k : Fin 256) : iblk m c 7 t (ix2 0 k) = m ((c : Thread nD τ).loc main_arg5) (ix2 0 k) := by
  refine Eq.trans ?_ (query_gain m c k)
  blk_simp [iblk]
  exact congrArg _ (by blk_ext [index7])

theorem gain_latent (k : Fin 128) : iblk m c 9 t (ix2 0 k) = m ((c : Thread nD τ).loc main_arg7) (ix2 0 k) := by
  refine Eq.trans ?_ (latent_gain m c k)
  blk_simp [iblk]
  exact congrArg _ (by blk_ext [index9])

theorem block_query (k : Fin 256) (n : Fin 512) : iblk m c 8 t (ix3 0 k n) = V m c main_v121 (ix3 0 k n) := by
  blk_simp [iblk]
  exact congrArg _ (by blk_ext [index8])

theorem block_latent (k : Fin 128) (n : Fin 1024) : iblk m c 10 t (ix3 0 k n) = V m c main_v134 (ix3 0 k n) := by
  blk_simp [iblk]
  exact congrArg _ (by blk_ext [index10])

/-- The block's latent rows, normalized and scaled. -/
def latents (p : ∀ a, (![0, 0, 2304] : Fin 3 → ℕ) a + (![1, 1024, 256] : Fin 3 → ℕ) a ≤ S1x1024x2560.size a) : FVec Ideal S1024x128 .bf16 :=
  k0_pay10 (rows m c t) (View.ld (iblk m c 4 t) (Rect.unit ![0, 0, 2304] ![1, 1024, 256] p)) (iblk m c 9 t)

theorem latents_apply (p) (k : Fin 128) :
    (latents m c t p (ix2 r k) : EReal) = scaled (Ideal.ofBits .f32 1124073472#32) (fun n : Fin 128 => col m c (batch t) (token t r) ⟨2304 + n.val, by omega⟩)
      (fun k => m ((c : Thread nD τ).loc main_arg7) (ix2 0 k)) k := by
  refine (pay10_apply _ _ _ r k).trans ?_
  exact congrArg₂ (fun x g => scaled _ x g k) (funext fun n => column_block m c t r ⟨n.val, by omega⟩ 2304 _ (by dsimp only; omega)) (funext fun k => gain_latent m c t k)

theorem key_entry (p) (n : Fin 512) (h : n.val % 128 < 64) :
    k0_pay86 (latents m c t p) (iblk m c 10 t) (ix2 r ⟨n.val, by omega⟩) = keyCol m c (batch t) (token t r) ⟨n.val / 128 * 128 + n.val % 128, by omega⟩ := by
  refine (pay86_apply _ _ r _).trans ?_
  unfold keyCol keyColumn
  exact Finset.sum_congr rfl fun k _ => congrArg₂ (fun a b : EReal => a * b) (latents_apply m c t r p k) ((block_latent m c t k _).trans (key_weight m c 0 k n h))

theorem key_rest (p) (n : Fin 512) (h : ¬ n.val % 128 < 64) : k0_pay86 (latents m c t p) (iblk m c 10 t) (ix2 r ⟨n.val, by omega⟩) = 0 := by
  refine (pay86_apply _ _ r _).trans (Finset.sum_eq_zero fun k _ => ?_)
  exact (congrArg (fun y : EReal => latents m c t p (ix2 r k) * y) ((block_latent m c t k _).trans (key_pad m c 0 k n h))).trans (mul_zero _)

theorem value_entry (p) (n : Fin 512) (h : n.val % 128 < 64) :
    k0_pay86 (latents m c t p) (iblk m c 10 t) (ix2 r ⟨512 + n.val, by omega⟩) = keyCol m c (batch t) (token t r) ⟨n.val / 128 * 128 + 64 + n.val % 128, by omega⟩ := by
  refine (pay86_apply _ _ r _).trans ?_
  unfold keyCol keyColumn
  exact Finset.sum_congr rfl fun k _ => congrArg₂ (fun a b : EReal => a * b) (latents_apply m c t r p k) ((block_latent m c t k _).trans (value_weight m c 0 k n h))

theorem value_rest (p) (n : Fin 512) (h : ¬ n.val % 128 < 64) : k0_pay86 (latents m c t p) (iblk m c 10 t) (ix2 r ⟨512 + n.val, by omega⟩) = 0 := by
  refine (pay86_apply _ _ r _).trans (Finset.sum_eq_zero fun k _ => ?_)
  exact (congrArg (fun y : EReal => latents m c t p (ix2 r k) * y) ((block_latent m c t k _).trans (value_pad m c 0 k n h))).trans (mul_zero _)

/-- A value head's lanes. -/
theorem value_lane (p) (e : Fin 4) (l : Fin 128) (o : Fin 1024) (ho : o.val = 512 + 128 * e.val + l.val) :
    (if l.val = 64 then (1 : EReal) else k0_pay86 (latents m c t p) (iblk m c 10 t) (ix2 r o))
      = valueLane (fun d => keyCol m c (batch t) (token t r) ⟨128 * e.val + (64 + d.val), by omega⟩) l := by
  unfold valueLane
  have ho : o = ⟨512 + (⟨128 * e.val + l.val, by omega⟩ : Fin 512).val, by dsimp only; omega⟩ := Fin.ext (by dsimp only; omega)
  rw [ho]
  by_cases h : l.val < 64
  · have hh := value_entry m c t r p ⟨128 * e.val + l.val, by omega⟩ (by dsimp only; omega)
    rw [dif_pos h, if_neg (show ¬ l.val = 64 by omega), hh]
    exact congrArg _ (Fin.ext (by dsimp only; omega))
  · refine Eq.trans ?_ (dif_neg h).symm
    exact congrArg (fun x : EReal => if l.val = 64 then 1 else x) (value_rest m c t r p ⟨128 * e.val + l.val, by omega⟩ (by dsimp only; omega))

/-- A key head's lanes. -/
theorem key_lane (p q p0 p1 p2) (e : Fin 4) (o : Fin 128 → Fin 1024) (ho : ∀ n, (o n).val = 128 * e.val + n.val) (l : Fin 128) :
    turned 120 8 (fun n => k0_pay86 (latents m c t p) (iblk m c 10 t) (ix2 r (o n))
          + k0_pay11 (rows m c t) (View.ld (iblk m c 4 t) (Rect.unit ![0, 0, 2304] ![1, 1024, 256] q)) (ix2 r n))
        (fun n => View.ld (iblk m c 6 t) (Rect.unit ![0, 0, 0] ![1, 1024, 128] p0) (ix3 0 r n))
        (fun n => View.ld (iblk m c 6 t) (Rect.unit ![1, 0, 0] ![1, 1024, 128] p1) (ix3 0 r n))
        (fun n => View.ld (iblk m c 6 t) (Rect.unit ![2, 0, 0] ![1, 1024, 128] p2) (ix3 0 r n)) l
      = latentLane (token t r).val (fun d => keyCol m c (batch t) (token t r) ⟨128 * e.val + d.val, by omega⟩)
          (fun d => col m c (batch t) (token t r) ⟨2432 + d.val, by omega⟩) l := by
  have hk (n : Fin 128) (h : n.val < 64) :
      k0_pay86 (latents m c t p) (iblk m c 10 t) (ix2 r (o n)) = keyCol m c (batch t) (token t r) ⟨128 * e.val + n.val, by omega⟩ := by
    have hh := key_entry m c t r p ⟨128 * e.val + n.val, by omega⟩ (by dsimp only; omega)
    refine (congrArg (fun o => k0_pay86 (latents m c t p) (iblk m c 10 t) (ix2 r o)) (Fin.ext (ho n))).trans (hh.trans (congrArg _ (Fin.ext (by dsimp only; omega))))
  have hz (n : Fin 128) (h : ¬ n.val < 64) : k0_pay86 (latents m c t p) (iblk m c 10 t) (ix2 r (o n)) = 0 :=
    (congrArg (fun o => k0_pay86 (latents m c t p) (iblk m c 10 t) (ix2 r o)) (Fin.ext (ho n))).trans
      (key_rest m c t r p ⟨128 * e.val + n.val, by omega⟩ (by dsimp only; omega))
  refine latent_head m c t r p0 p1 p2 _ _ _ (fun d => ?_) (fun d => ?_) (fun n hn => ?_) l
  · refine (congrArg₂ (fun a b : EReal => a + b) (hk _ d.isLt) ((pay11_apply _ _ r _).trans (key_zero m c t r _ 2304 q ?_ ?_))).trans (add_zero _)
    · dsimp only; omega
    · dsimp only; omega
  · refine (congrArg₂ (fun a b : EReal => a + b) (hz _ (by dsimp only; omega)) ((pay11_apply _ _ r _).trans (column_block m c t r _ 2304 q ?_))).trans ((zero_add _).trans ?_)
    · dsimp only; omega
    · exact congrArg _ (Fin.ext (by dsimp only; omega))
  · refine (congrArg₂ (fun a b : EReal => a + b) (hz n (by omega)) ((pay11_apply _ _ r _).trans (key_zero m c t r _ 2304 q ?_ ?_))).trans (add_zero _)
    · dsimp only; omega
    · dsimp only; omega

/-- The block's query rows, normalized and scaled. -/
def queries (p : ∀ a, (![0, 0, 2048] : Fin 3 → ℕ) a + (![1, 1024, 256] : Fin 3 → ℕ) a ≤ S1x1024x2560.size a) : FVec Ideal S1024x256 .bf16 :=
  k0_pay8 (k0_pay5 (iblk m c 0 t) (iblk m c 3 t) (iblk m c 1 t) (iblk m c 2 t) (View.ld (iblk m c 4 t) (Rect.unit ![0, 0, 2048] ![1, 1024, 256] p)))
    (k0_pay6 (iblk m c 7 t))
    (k0_pay7 (iblk m c 0 t) (iblk m c 3 t) (iblk m c 1 t) (iblk m c 2 t) (View.ld (iblk m c 4 t) (Rect.unit ![0, 0, 2048] ![1, 1024, 256] p)))
    (FloatOps.ofBits .f32 1132462080#32)

theorem queries_apply (p) (k : Fin 256) :
    (queries m c t p (ix2 r k) : EReal) = scaled (Ideal.ofBits .f32 1132462080#32) (fun n : Fin 256 => col m c (batch t) (token t r) ⟨2048 + n.val, by omega⟩)
      (fun k => m ((c : Thread nD τ).loc main_arg5) (ix2 0 k)) k := by
  refine (pay8_apply _ _ _ _ _ _ r k).trans ?_
  exact congrArg₂ (fun x g => scaled _ x g k) (funext fun n => column_block m c t r n 2048 _ (by omega)) (funext fun k => gain_query m c t k)

theorem query_entry (p) (n : Fin 512) (h : n.val % 128 < 96) :
    k0_pay71 (queries m c t p) (iblk m c 8 t) (ix2 r n) = queryCol m c (batch t) (token t r) ⟨n.val / 128 * 96 + n.val % 128, by omega⟩ := by
  refine (pay71_apply _ _ r _).trans ?_
  unfold queryCol queryColumn
  exact Finset.sum_congr rfl fun k _ => congrArg₂ (fun a b : EReal => a * b) (queries_apply m c t r p k) ((block_query m c t k _).trans (query_weight m c 0 k n h))

theorem query_rest (p) (n : Fin 512) (h : ¬ n.val % 128 < 96) : k0_pay71 (queries m c t p) (iblk m c 8 t) (ix2 r n) = 0 := by
  refine (pay71_apply _ _ r _).trans (Finset.sum_eq_zero fun k _ => ?_)
  exact (congrArg (fun y : EReal => queries m c t p (ix2 r k) * y) ((block_query m c t k _).trans (query_pad m c 0 k n h))).trans (mul_zero _)

/-- A query head's lanes. -/
theorem query_lane (p p0 p1 p2) (e : Fin 4) (o : Fin 128 → Fin 512) (ho : ∀ n, (o n).val = 128 * e.val + n.val) (l : Fin 128) :
    turned 120 8 (fun n => k0_pay71 (queries m c t p) (iblk m c 8 t) (ix2 r (o n)))
        (fun n => View.ld (iblk m c 6 t) (Rect.unit ![0, 0, 0] ![1, 1024, 128] p0) (ix3 0 r n))
        (fun n => View.ld (iblk m c 6 t) (Rect.unit ![1, 0, 0] ![1, 1024, 128] p1) (ix3 0 r n))
        (fun n => View.ld (iblk m c 6 t) (Rect.unit ![2, 0, 0] ![1, 1024, 128] p2) (ix3 0 r n)) l
      = latentLane (token t r).val (fun d => queryCol m c (batch t) (token t r) ⟨96 * e.val + d.val, by omega⟩)
          (fun d => queryCol m c (batch t) (token t r) ⟨96 * e.val + (64 + d.val), by omega⟩) l := by
  refine latent_head m c t r p0 p1 p2 _ _ _ (fun d => ?_) (fun d => ?_) (fun n hn => ?_) l
  · have h := ho ⟨d.val, by omega⟩
    dsimp only at h
    exact (query_entry m c t r p _ (by omega)).trans (congrArg _ (Fin.ext (by dsimp only; omega)))
  · have h := ho ⟨64 + d.val, by omega⟩
    dsimp only at h
    exact (query_entry m c t r p _ (by omega)).trans (congrArg _ (Fin.ext (by dsimp only; omega)))
  · have h := ho n
    exact query_rest m c t r p _ (by omega)

end

theorem array22_eq (c : Dev nD) (G : FVec Ideal S4x8192x512 .bf16)
    (hG : ∀ (b : Fin 4) (r : Fin 8192) (e : Fin 4) (l : Fin 128),
      G (ix3 b r ⟨128 * e.val + l.val, by omega⟩) = valueLane (fun d => keyCol m c b r ⟨128 * e.val + (64 + d.val), by omega⟩) l) :
    (dats m 0 c).arrAt 22 cfg0.N = G := by
  refine (dats m 0 c).arrAt_eq_of_covers 22 G (by decide +kernel) fun t hf y => ?_
  blk_simp
  rw [after0_22]
  unfold outsAt0
  frame_open
  frame_out
  refine pieces4 (e := .bf16) _ _ _ _ (fun y => G (((View.whole main_v144_11).slice (win0_22.rect t)).emb y)) _ _ _ _ (fun r l => ?_) (fun r l => ?_) (fun r l => ?_)
    (fun r l => ?_) y
  · refine Eq.trans ?_ ((congrArg G (place22 t r _)).trans (hG _ _ 0 l)).symm
    exact (pay90_apply _ 0 r l).trans (value_lane m c t r _ 0 l _ rfl)
  · refine Eq.trans ?_ ((congrArg G (place22 t r _)).trans (hG _ _ 1 l)).symm
    exact (pay95_apply _ 0 r l).trans (value_lane m c t r _ 1 l _ rfl)
  · refine Eq.trans ?_ ((congrArg G (place22 t r _)).trans (hG _ _ 2 l)).symm
    exact (pay97_apply _ 0 r l).trans (value_lane m c t r _ 2 l _ rfl)
  · refine Eq.trans ?_ ((congrArg G (place22 t r _)).trans (hG _ _ 3 l)).symm
    exact (pay1_apply _ 0 r l).trans (value_lane m c t r _ 3 l _ rfl)

theorem array21_eq (c : Dev nD) (G : FVec Ideal S4x8192x512 .bf16)
    (hG : ∀ (b : Fin 4) (r : Fin 8192) (e : Fin 4) (l : Fin 128),
      G (ix3 b r ⟨128 * e.val + l.val, by omega⟩) = latentLane r.val (fun d => keyCol m c b r ⟨128 * e.val + d.val, by omega⟩) (fun d => col m c b r ⟨2432 + d.val, by omega⟩) l) :
    (dats m 0 c).arrAt 21 cfg0.N = G := by
  refine (dats m 0 c).arrAt_eq_of_covers 21 G (by decide +kernel) fun t hf y => ?_
  blk_simp
  rw [after0_21]
  unfold outsAt0
  frame_open
  frame_out
  refine pieces4 (e := .bf16) _ _ _ _ (fun y => G (((View.whole main_v144_10).slice (win0_21.rect t)).emb y)) _ _ _ _ (fun r l => ?_) (fun r l => ?_) (fun r l => ?_)
    (fun r l => ?_) y
  · refine Eq.trans ?_ ((congrArg G (place21 t r _)).trans (hG _ _ 0 l)).symm
    exact (pay89_apply _ _ _ _ _ _ 0 r l).trans (key_lane m c t r _ _ _ _ _ 0 _ (fun n => by simp) l)
  · refine Eq.trans ?_ ((congrArg G (place21 t r _)).trans (hG _ _ 1 l)).symm
    exact (pay94_apply _ _ _ _ _ 0 r l).trans (key_lane m c t r _ _ _ _ _ 1 _ (fun n => rfl) l)
  · refine Eq.trans ?_ ((congrArg G (place21 t r _)).trans (hG _ _ 2 l)).symm
    exact (pay96_apply _ _ _ _ _ 0 r l).trans (key_lane m c t r _ _ _ _ _ 2 _ (fun n => rfl) l)
  · refine Eq.trans ?_ ((congrArg G (place21 t r _)).trans (hG _ _ 3 l)).symm
    exact (pay98_apply _ _ _ _ _ 0 r l).trans (key_lane m c t r _ _ _ _ _ 3 _ (fun n => rfl) l)

theorem array20_eq (c : Dev nD) (G : FVec Ideal S4x8192x512 .bf16)
    (hG : ∀ (b : Fin 4) (r : Fin 8192) (e : Fin 4) (l : Fin 128),
      G (ix3 b r ⟨128 * e.val + l.val, by omega⟩) = latentLane r.val (fun d => queryCol m c b r ⟨96 * e.val + d.val, by omega⟩) (fun d => queryCol m c b r ⟨96 * e.val + (64 + d.val), by omega⟩) l) :
    (dats m 0 c).arrAt 20 cfg0.N = G := by
  refine (dats m 0 c).arrAt_eq_of_covers 20 G (by decide +kernel) fun t hf y => ?_
  blk_simp
  rw [after0_20]
  unfold outsAt0
  frame_open
  frame_out
  refine pieces4 (e := .bf16) _ _ _ _ (fun y => G (((View.whole main_v144_9).slice (win0_20.rect t)).emb y)) _ _ _ _ (fun r l => ?_) (fun r l => ?_) (fun r l => ?_)
    (fun r l => ?_) y
  · refine Eq.trans ?_ ((congrArg G (place20 t r _)).trans (hG _ _ 0 l)).symm
    exact (pay75_apply _ _ _ _ _ 0 r l).trans (query_lane m c t r _ _ _ _ 0 _ (fun n => by simp) l)
  · refine Eq.trans ?_ ((congrArg G (place20 t r _)).trans (hG _ _ 1 l)).symm
    exact (pay76_apply _ _ _ _ 0 r l).trans (query_lane m c t r _ _ _ _ 1 _ (fun n => rfl) l)
  · refine Eq.trans ?_ ((congrArg G (place20 t r _)).trans (hG _ _ 2 l)).symm
    exact (pay80_apply _ _ _ _ 0 r l).trans (query_lane m c t r _ _ _ _ 2 _ (fun n => rfl) l)
  · refine Eq.trans ?_ ((congrArg G (place20 t r _)).trans (hG _ _ 3 l)).symm
    exact (pay81_apply _ _ _ _ 0 r l).trans (query_lane m c t r _ _ _ _ 3 _ (fun n => rfl) l)

end Cert.Inp

end
-- ==== Proof.InpRef.lean ====
module

public import proofs.«01_k».proof.Proof.InpArray
public import proofs.«01_k».proof.Proof.Gen.Reference3Ideal.Read

@[expose] public section

set_option maxRecDepth 16384

/-!
  What the input projection's reference computes at an entry.
-/

noncomputable section

namespace Cert.InpRef

open Cert.Reference3Ideal Cert.Reference3Ideal.Gen Cert.Reference3Ideal.Read Idealize.ShloMosaic

variable (x0 : FVec Ideal S4x8192x1024 .f32) (x1 x2 : FVec Ideal S4x1x1024 .f32) (x3 : FVec Ideal S4x1024 .f32) (x4 : FVec Ideal S4x1024x2464 .f32)

theorem hidden_apply (b : Fin 4) (r : Fin 8192) (o : Fin 1024) :
    val_main_v20 (F := Ideal) x0 x1 x2 x3 (ix3 b r o) = Inp.hidden x0 x1 x2 x3 b r o := by
  unfold Inp.hidden Ffn.modulated Ffn.norm
  pointwise [val_main_v20, val_main_v19, val_main_v18, val_main_v17, val_main_v16, val_main_v15, val_main_cst_2, val_main_v14, val_main_v13,
    val_main_v12, val_main_v11, val_main_v10, val_main_v9, val_main_v8, val_main_v7, val_main_cst_1, val_main_v6, val_main_v5, val_main_cst_0,
    val_main_v4, val_main_v3, val_main_cst, val_main_v2, val_main_v1, val_main_v0]

theorem column_apply (b : Fin 4) (r : Fin 8192) (n : Fin 2464) :
    val_main_v23 (F := Ideal) x0 x1 x2 x3 x4 (ix3 b r n) = Inp.column x0 x1 x2 x3 x4 b r n := by
  unfold Inp.column
  pointwise [val_main_v23, val_main_v22, val_main_v21]
  simp only [hidden_apply]

theorem hq_apply (b : Fin 4) (r : Fin 8192) (o : Fin 256) :
    val_main_v28 (F := Ideal) x0 x1 x2 x3 x4 (ix3 b r o) = Inp.column x0 x1 x2 x3 x4 b r ⟨768 + o.val, by omega⟩ := by
  rw [← column_apply]
  pointwise [val_main_v28]

theorem hzf_apply (b : Fin 4) (r : Fin 8192) (o : Fin 256) :
    val_main_v29 (F := Ideal) x0 x1 x2 x3 x4 (ix3 b r o) = Inp.column x0 x1 x2 x3 x4 b r ⟨1024 + o.val, by omega⟩ := by
  rw [← column_apply]
  pointwise [val_main_v29]

theorem hzb_apply (b : Fin 4) (r : Fin 8192) (o : Fin 256) :
    val_main_v30 (F := Ideal) x0 x1 x2 x3 x4 (ix3 b r o) = Inp.column x0 x1 x2 x3 x4 b r ⟨1280 + o.val, by omega⟩ := by
  rw [← column_apply]
  pointwise [val_main_v30]

theorem hi_apply (b : Fin 4) (r : Fin 8192) (o : Fin 256) :
    val_main_v31 (F := Ideal) x0 x1 x2 x3 x4 (ix3 b r o) = Inp.column x0 x1 x2 x3 x4 b r ⟨1536 + o.val, by omega⟩ := by
  rw [← column_apply]
  pointwise [val_main_v31]

theorem hg_apply (b : Fin 4) (r : Fin 8192) (o : Fin 256) :
    val_main_v32 (F := Ideal) x0 x1 x2 x3 x4 (ix3 b r o) = Inp.column x0 x1 x2 x3 x4 b r ⟨1792 + o.val, by omega⟩ := by
  rw [← column_apply]
  pointwise [val_main_v32]

end Cert.InpRef

end
-- ==== Proof.InpHeadsRef.lean ====
module

public import proofs.«01_k».proof.Proof.InpRef
public import proofs.«01_k».proof.Proof.InpHeads2

@[expose] public section

set_option maxRecDepth 16384

/-!
  What the input projection's reference computes at an entry of a head.
-/

noncomputable section

namespace Cert.InpRef

open Cert.Reference3Ideal Cert.Reference3Ideal.Gen Cert.Reference3Ideal.Read Idealize.ShloMosaic

variable (x0 : FVec Ideal S4x8192x1024 .f32) (x1 x2 : FVec Ideal S4x1x1024 .f32) (x3 : FVec Ideal S4x1024 .f32) (x4 : FVec Ideal S4x1024x2464 .f32)

theorem truncf_at {S : Shape} (x : FVec Ideal S .f32) (h) (i : S.Idx) : (truncf .bf16 x h i : EReal) = x i := rfl

variable (x5 : FVec Ideal S4x256 .f32) (x6 : FVec Ideal S4x256x384 .f32) (x7 : FVec Ideal S4x128 .f32) (x8 : FVec Ideal S4x128x512 .f32)

/-! The 128 entries of a head. -/

theorem v39_apply (b : Fin 4) (r : Fin 8192) (e : Fin 2) (l : Fin 128) :
    (val_main_v39 (F := Ideal) x0 x1 x2 x3 x4 (ix4 b r e l) : EReal) = if h : l.val < 64 then val_main_v36 (F := Ideal) x0 x1 x2 x3 x4 (ix4 b r e ⟨l.val, h⟩)
      else if h : l.val - 64 < 1 then 1 else 0 := by
  pointwise [val_main_v39, val_main_v37, val_main_v38, val_main_cst_3, val_main_cst_4]

theorem v41_apply (b : Fin 4) (r : Fin 8192) (e : Fin 2) (l : Fin 128) :
    (val_main_v41 (F := Ideal) x0 x1 x2 x3 x4 (ix3 b r ⟨128 * e.val + l.val, by omega⟩) : EReal) = val_main_v39 (F := Ideal) x0 x1 x2 x3 x4 (ix4 b r e l) := by
  have h (n : Fin 256) : val_main_v40 (F := Ideal) x0 x1 x2 x3 x4 (ix3 b r n) = val_main_v39 (F := Ideal) x0 x1 x2 x3 x4 (ix4 b r ⟨n.val / 128, by omega⟩ ⟨n.val % 128, by omega⟩) := by
    pointwise [val_main_v40]
  refine Eq.trans ?_ ((h ⟨128 * e.val + l.val, by omega⟩).trans (congrArg₂ (fun e l => val_main_v39 (F := Ideal) x0 x1 x2 x3 x4 (ix4 b r e l)) (Fin.ext (by dsimp only; omega)) (Fin.ext (by dsimp only; omega))))
  unfold val_main_v41
  exact truncf_at _ _ _

theorem v64_apply (b : Fin 4) (r : Fin 8192) (e : Fin 4) (l : Fin 128) :
    (val_main_v64 (F := Ideal) x0 x1 x2 x3 x4 x7 x8 (ix4 b r e l) : EReal) = if h : l.val < 64 then val_main_v61 (F := Ideal) x0 x1 x2 x3 x4 x7 x8 (ix4 b r e ⟨l.val, h⟩)
      else if h : l.val - 64 < 1 then 1 else 0 := by
  pointwise [val_main_v64, val_main_v62, val_main_v63, val_main_cst_8, val_main_cst_9]

theorem v66_apply (b : Fin 4) (r : Fin 8192) (e : Fin 4) (l : Fin 128) :
    (val_main_v66 (F := Ideal) x0 x1 x2 x3 x4 x7 x8 (ix3 b r ⟨128 * e.val + l.val, by omega⟩) : EReal) = val_main_v64 (F := Ideal) x0 x1 x2 x3 x4 x7 x8 (ix4 b r e l) := by
  have h (n : Fin 512) : val_main_v65 (F := Ideal) x0 x1 x2 x3 x4 x7 x8 (ix3 b r n) = val_main_v64 (F := Ideal) x0 x1 x2 x3 x4 x7 x8 (ix4 b r ⟨n.val / 128, by omega⟩ ⟨n.val % 128, by omega⟩) := by
    pointwise [val_main_v65]
  refine Eq.trans ?_ ((h ⟨128 * e.val + l.val, by omega⟩).trans (congrArg₂ (fun e l => val_main_v64 (F := Ideal) x0 x1 x2 x3 x4 x7 x8 (ix4 b r e l)) (Fin.ext (by dsimp only; omega)) (Fin.ext (by dsimp only; omega))))
  unfold val_main_v66
  exact truncf_at _ _ _

theorem v119_apply (b : Fin 4) (r : Fin 8192) (e : Fin 2) (l : Fin 128) :
    (val_main_v119 (F := Ideal) x0 x1 x2 x3 x4 (ix4 b r e l) : EReal) = if h : l.val < 64 then val_main_v116 (F := Ideal) x0 x1 x2 x3 x4 (ix4 b r e ⟨l.val, h⟩)
      else if h : l.val - 64 < 1 then 0 else 0 := by
  pointwise [val_main_v119, val_main_v117, val_main_v118, val_main_cst_12, val_main_cst_13]

theorem v121_apply (b : Fin 4) (r : Fin 8192) (e : Fin 2) (l : Fin 128) :
    (val_main_v121 (F := Ideal) x0 x1 x2 x3 x4 (ix3 b r ⟨128 * e.val + l.val, by omega⟩) : EReal) = val_main_v119 (F := Ideal) x0 x1 x2 x3 x4 (ix4 b r e l) := by
  have h (n : Fin 256) : val_main_v120 (F := Ideal) x0 x1 x2 x3 x4 (ix3 b r n) = val_main_v119 (F := Ideal) x0 x1 x2 x3 x4 (ix4 b r ⟨n.val / 128, by omega⟩ ⟨n.val % 128, by omega⟩) := by
    pointwise [val_main_v120]
  refine Eq.trans ?_ ((h ⟨128 * e.val + l.val, by omega⟩).trans (congrArg₂ (fun e l => val_main_v119 (F := Ideal) x0 x1 x2 x3 x4 (ix4 b r e l)) (Fin.ext (by dsimp only; omega)) (Fin.ext (by dsimp only; omega))))
  unfold val_main_v121
  exact truncf_at _ _ _

theorem v146_apply (b : Fin 4) (r : Fin 8192) (e : Fin 4) (l : Fin 128) :
    (val_main_v146 (F := Ideal) x0 x1 x2 x3 x4 (ix4 b r e l) : EReal) = if h : l.val < 64 then val_main_v143 (F := Ideal) x0 x1 x2 x3 x4 (ix4 b r e ⟨l.val, h⟩)
      else if h : l.val - 64 < 1 then 0 else 0 := by
  pointwise [val_main_v146, val_main_v144, val_main_v145, val_main_cst_14, val_main_cst_15]

theorem v148_apply (b : Fin 4) (r : Fin 8192) (e : Fin 4) (l : Fin 128) :
    (val_main_v148 (F := Ideal) x0 x1 x2 x3 x4 (ix3 b r ⟨128 * e.val + l.val, by omega⟩) : EReal) = val_main_v146 (F := Ideal) x0 x1 x2 x3 x4 (ix4 b r e l) := by
  have h (n : Fin 512) : val_main_v147 (F := Ideal) x0 x1 x2 x3 x4 (ix3 b r n) = val_main_v146 (F := Ideal) x0 x1 x2 x3 x4 (ix4 b r ⟨n.val / 128, by omega⟩ ⟨n.val % 128, by omega⟩) := by
    pointwise [val_main_v147]
  refine Eq.trans ?_ ((h ⟨128 * e.val + l.val, by omega⟩).trans (congrArg₂ (fun e l => val_main_v146 (F := Ideal) x0 x1 x2 x3 x4 (ix4 b r e l)) (Fin.ext (by dsimp only; omega)) (Fin.ext (by dsimp only; omega))))
  unfold val_main_v148
  exact truncf_at _ _ _

theorem v204_apply (b : Fin 4) (r : Fin 8192) (e : Fin 4) (l : Fin 128) :
    (val_main_v204 (F := Ideal) x0 x1 x2 x3 x4 x7 x8 (ix4 b r e l) : EReal) = if h : l.val < 96 then val_main_v201 (F := Ideal) x0 x1 x2 x3 x4 x7 x8 (ix4 b r e ⟨l.val, h⟩)
      else if h : l.val - 96 < 1 then 0 else 0 := by
  pointwise [val_main_v204, val_main_v202, val_main_v203, val_main_cst_18, val_main_cst_19]

theorem v206_apply (b : Fin 4) (r : Fin 8192) (e : Fin 4) (l : Fin 128) :
    (val_main_v206 (F := Ideal) x0 x1 x2 x3 x4 x7 x8 (ix3 b r ⟨128 * e.val + l.val, by omega⟩) : EReal) = val_main_v204 (F := Ideal) x0 x1 x2 x3 x4 x7 x8 (ix4 b r e l) := by
  have h (n : Fin 512) : val_main_v205 (F := Ideal) x0 x1 x2 x3 x4 x7 x8 (ix3 b r n) = val_main_v204 (F := Ideal) x0 x1 x2 x3 x4 x7 x8 (ix4 b r ⟨n.val / 128, by omega⟩ ⟨n.val % 128, by omega⟩) := by
    pointwise [val_main_v205]
  refine Eq.trans ?_ ((h ⟨128 * e.val + l.val, by omega⟩).trans (congrArg₂ (fun e l => val_main_v204 (F := Ideal) x0 x1 x2 x3 x4 x7 x8 (ix4 b r e l)) (Fin.ext (by dsimp only; omega)) (Fin.ext (by dsimp only; omega))))
  unfold val_main_v206
  exact truncf_at _ _ _

theorem v252_apply (b : Fin 4) (r : Fin 8192) (e : Fin 4) (l : Fin 128) :
    (val_main_v252 (F := Ideal) x0 x1 x2 x3 x4 x5 x6 (ix4 b r e l) : EReal) = if h : l.val < 96 then val_main_v249 (F := Ideal) x0 x1 x2 x3 x4 x5 x6 (ix4 b r e ⟨l.val, h⟩)
      else if h : l.val - 96 < 1 then 0 else 0 := by
  pointwise [val_main_v252, val_main_v250, val_main_v251, val_main_cst_23, val_main_cst_24]

theorem v254_apply (b : Fin 4) (r : Fin 8192) (e : Fin 4) (l : Fin 128) :
    (val_main_v254 (F := Ideal) x0 x1 x2 x3 x4 x5 x6 (ix3 b r ⟨128 * e.val + l.val, by omega⟩) : EReal) = val_main_v252 (F := Ideal) x0 x1 x2 x3 x4 x5 x6 (ix4 b r e l) := by
  have h (n : Fin 512) : val_main_v253 (F := Ideal) x0 x1 x2 x3 x4 x5 x6 (ix3 b r n) = val_main_v252 (F := Ideal) x0 x1 x2 x3 x4 x5 x6 (ix4 b r ⟨n.val / 128, by omega⟩ ⟨n.val % 128, by omega⟩) := by
    pointwise [val_main_v253]
  refine Eq.trans ?_ ((h ⟨128 * e.val + l.val, by omega⟩).trans (congrArg₂ (fun e l => val_main_v252 (F := Ideal) x0 x1 x2 x3 x4 x5 x6 (ix4 b r e l)) (Fin.ext (by dsimp only; omega)) (Fin.ext (by dsimp only; omega))))
  unfold val_main_v254
  exact truncf_at _ _ _

theorem v36_apply (b : Fin 4) (r : Fin 8192) (e : Fin 2) (d : Fin 64) :
    val_main_v36 (F := Ideal) x0 x1 x2 x3 x4 (ix4 b r e d) = val_main_v23 (F := Ideal) x0 x1 x2 x3 x4 (ix3 b r ⟨640 + (e.val * 64 + d.val), by omega⟩) := by
  pointwise [val_main_v36, val_main_v27]

/-! The angles' tables. -/

theorem v93_apply (r : Fin 8192) (a : Fin 2) (f : Fin 16) :
    (val_main_v93 (F := Ideal) (ix3 r a f) : EReal) = Ideal.cos (Inp.angle 1098907648#32 r.val a.val f.val) := by
  unfold Inp.angle
  rw [ite_mul, ← dite_eq_ite]
  pointwise [val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_cst_10, val_main_cst_11]

theorem v94_apply (r : Fin 8192) (a : Fin 2) (f : Fin 16) :
    (val_main_v94 (F := Ideal) (ix3 r a f) : EReal) = Ideal.sin (Inp.angle 1098907648#32 r.val a.val f.val) := by
  unfold Inp.angle
  rw [ite_mul, ← dite_eq_ite]
  pointwise [val_main_v94, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_cst_10, val_main_cst_11]

theorem v175_apply (r : Fin 8192) (a : Fin 2) (f : Fin 8) :
    (val_main_v175 (F := Ideal) (ix3 r a f) : EReal) = Ideal.cos (Inp.angle 1090519040#32 r.val a.val f.val) := by
  unfold Inp.angle
  rw [ite_mul, ← dite_eq_ite]
  pointwise [val_main_v175, val_main_v174, val_main_v173, val_main_v172, val_main_v171, val_main_v170, val_main_v169, val_main_v168, val_main_v167, val_main_v166, val_main_v165, val_main_v164, val_main_v163, val_main_v162, val_main_v161, val_main_v160, val_main_v159, val_main_v158, val_main_v157, val_main_v156, val_main_v155, val_main_v154, val_main_v153, val_main_v152, val_main_v151, val_main_v150, val_main_v149, val_main_cst_16, val_main_cst_17]

theorem v176_apply (r : Fin 8192) (a : Fin 2) (f : Fin 8) :
    (val_main_v176 (F := Ideal) (ix3 r a f) : EReal) = Ideal.sin (Inp.angle 1090519040#32 r.val a.val f.val) := by
  unfold Inp.angle
  rw [ite_mul, ← dite_eq_ite]
  pointwise [val_main_v176, val_main_v174, val_main_v173, val_main_v172, val_main_v171, val_main_v170, val_main_v169, val_main_v168, val_main_v167, val_main_v166, val_main_v165, val_main_v164, val_main_v163, val_main_v162, val_main_v161, val_main_v160, val_main_v159, val_main_v158, val_main_v157, val_main_v156, val_main_v155, val_main_v154, val_main_v153, val_main_v152, val_main_v151, val_main_v150, val_main_v149, val_main_cst_16, val_main_cst_17]

/-! Pairs of entries, turned. -/

theorem v116_apply (b : Fin 4) (r : Fin 8192) (e : Fin 2) (d : Fin 64) :
    (val_main_v116 (F := Ideal) x0 x1 x2 x3 x4 (ix4 b r e d) : EReal) = if h : d.val / 16 % 2 < 1 then val_main_v95 (F := Ideal) x0 x1 x2 x3 x4 (ix4 b r e ⟨d.val / 32 * 32 + d.val % 16, by omega⟩) * val_main_v93 (F := Ideal) (ix3 r ⟨d.val / 32, by omega⟩ ⟨d.val % 16, by omega⟩) - val_main_v95 (F := Ideal) x0 x1 x2 x3 x4 (ix4 b r e ⟨d.val / 32 * 32 + 16 + d.val % 16, by omega⟩) * val_main_v94 (F := Ideal) (ix3 r ⟨d.val / 32, by omega⟩ ⟨d.val % 16, by omega⟩)
      else val_main_v95 (F := Ideal) x0 x1 x2 x3 x4 (ix4 b r e ⟨d.val / 32 * 32 + 16 + d.val % 16, by omega⟩) * val_main_v93 (F := Ideal) (ix3 r ⟨d.val / 32, by omega⟩ ⟨d.val % 16, by omega⟩) + val_main_v95 (F := Ideal) x0 x1 x2 x3 x4 (ix4 b r e ⟨d.val / 32 * 32 + d.val % 16, by omega⟩) * val_main_v94 (F := Ideal) (ix3 r ⟨d.val / 32, by omega⟩ ⟨d.val % 16, by omega⟩) := by
  pointwise [val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96]

theorem v143_apply (b : Fin 4) (r : Fin 8192) (e : Fin 4) (d : Fin 64) :
    (val_main_v143 (F := Ideal) x0 x1 x2 x3 x4 (ix4 b r e d) : EReal) = if h : d.val / 16 % 2 < 1 then val_main_v122 (F := Ideal) x0 x1 x2 x3 x4 (ix4 b r e ⟨d.val / 32 * 32 + d.val % 16, by omega⟩) * val_main_v93 (F := Ideal) (ix3 r ⟨d.val / 32, by omega⟩ ⟨d.val % 16, by omega⟩) - val_main_v122 (F := Ideal) x0 x1 x2 x3 x4 (ix4 b r e ⟨d.val / 32 * 32 + 16 + d.val % 16, by omega⟩) * val_main_v94 (F := Ideal) (ix3 r ⟨d.val / 32, by omega⟩ ⟨d.val % 16, by omega⟩)
      else val_main_v122 (F := Ideal) x0 x1 x2 x3 x4 (ix4 b r e ⟨d.val / 32 * 32 + 16 + d.val % 16, by omega⟩) * val_main_v93 (F := Ideal) (ix3 r ⟨d.val / 32, by omega⟩ ⟨d.val % 16, by omega⟩) + val_main_v122 (F := Ideal) x0 x1 x2 x3 x4 (ix4 b r e ⟨d.val / 32 * 32 + d.val % 16, by omega⟩) * val_main_v94 (F := Ideal) (ix3 r ⟨d.val / 32, by omega⟩ ⟨d.val % 16, by omega⟩) := by
  pointwise [val_main_v143, val_main_v142, val_main_v141, val_main_v140, val_main_v139, val_main_v138, val_main_v137, val_main_v136, val_main_v135, val_main_v134, val_main_v133, val_main_v132, val_main_v131, val_main_v130, val_main_v129, val_main_v128, val_main_v127, val_main_v126, val_main_v125, val_main_v124, val_main_v123]

theorem v198_apply (b : Fin 4) (r : Fin 8192) (d : Fin 32) :
    (val_main_v198 (F := Ideal) x0 x1 x2 x3 x4 (ix4 b r 0 d) : EReal) = if h : d.val / 8 % 2 < 1 then val_main_v35 (F := Ideal) x0 x1 x2 x3 x4 (ix3 b r ⟨d.val / 16 * 16 + d.val % 8, by omega⟩) * val_main_v175 (F := Ideal) (ix3 r ⟨d.val / 16, by omega⟩ ⟨d.val % 8, by omega⟩) - val_main_v35 (F := Ideal) x0 x1 x2 x3 x4 (ix3 b r ⟨d.val / 16 * 16 + 8 + d.val % 8, by omega⟩) * val_main_v176 (F := Ideal) (ix3 r ⟨d.val / 16, by omega⟩ ⟨d.val % 8, by omega⟩)
      else val_main_v35 (F := Ideal) x0 x1 x2 x3 x4 (ix3 b r ⟨d.val / 16 * 16 + 8 + d.val % 8, by omega⟩) * val_main_v175 (F := Ideal) (ix3 r ⟨d.val / 16, by omega⟩ ⟨d.val % 8, by omega⟩) + val_main_v35 (F := Ideal) x0 x1 x2 x3 x4 (ix3 b r ⟨d.val / 16 * 16 + d.val % 8, by omega⟩) * val_main_v176 (F := Ideal) (ix3 r ⟨d.val / 16, by omega⟩ ⟨d.val % 8, by omega⟩) := by
  pointwise [val_main_v198, val_main_v197, val_main_v196, val_main_v195, val_main_v194, val_main_v193, val_main_v192, val_main_v191, val_main_v190, val_main_v189, val_main_v188, val_main_v187, val_main_v186, val_main_v185, val_main_v184, val_main_v183, val_main_v182, val_main_v181, val_main_v180, val_main_v179, val_main_v178, val_main_v177]

theorem v248_apply (b : Fin 4) (r : Fin 8192) (e : Fin 4) (d : Fin 32) :
    (val_main_v248 (F := Ideal) x0 x1 x2 x3 x4 x5 x6 (ix4 b r e d) : EReal) = if h : d.val / 8 % 2 < 1 then val_main_v227 (F := Ideal) x0 x1 x2 x3 x4 x5 x6 (ix4 b r e ⟨d.val / 16 * 16 + d.val % 8, by omega⟩) * val_main_v175 (F := Ideal) (ix3 r ⟨d.val / 16, by omega⟩ ⟨d.val % 8, by omega⟩) - val_main_v227 (F := Ideal) x0 x1 x2 x3 x4 x5 x6 (ix4 b r e ⟨d.val / 16 * 16 + 8 + d.val % 8, by omega⟩) * val_main_v176 (F := Ideal) (ix3 r ⟨d.val / 16, by omega⟩ ⟨d.val % 8, by omega⟩)
      else val_main_v227 (F := Ideal) x0 x1 x2 x3 x4 x5 x6 (ix4 b r e ⟨d.val / 16 * 16 + 8 + d.val % 8, by omega⟩) * val_main_v175 (F := Ideal) (ix3 r ⟨d.val / 16, by omega⟩ ⟨d.val % 8, by omega⟩) + val_main_v227 (F := Ideal) x0 x1 x2 x3 x4 x5 x6 (ix4 b r e ⟨d.val / 16 * 16 + d.val % 8, by omega⟩) * val_main_v176 (F := Ideal) (ix3 r ⟨d.val / 16, by omega⟩ ⟨d.val % 8, by omega⟩) := by
  pointwise [val_main_v248, val_main_v247, val_main_v246, val_main_v245, val_main_v244, val_main_v243, val_main_v242, val_main_v241, val_main_v240, val_main_v239, val_main_v238, val_main_v237, val_main_v236, val_main_v235, val_main_v234, val_main_v233, val_main_v232, val_main_v231, val_main_v230, val_main_v229, val_main_v228]

theorem pairs64 (w : BitVec 32) (r : ℕ) (X Y : Fin 64 → EReal) (hX : ∀ d, X d = Y d) (C S : Fin 2 → Fin 16 → EReal)
    (hC : ∀ a f, C a f = Ideal.cos (Inp.angle w r a.val f.val)) (hS : ∀ a f, S a f = Ideal.sin (Inp.angle w r a.val f.val)) (d : Fin 64) :
    (if h : d.val / 16 % 2 < 1 then X ⟨d.val / 32 * 32 + d.val % 16, by omega⟩ * C ⟨d.val / 32, by omega⟩ ⟨d.val % 16, by omega⟩ - X ⟨d.val / 32 * 32 + 16 + d.val % 16, by omega⟩ * S ⟨d.val / 32, by omega⟩ ⟨d.val % 16, by omega⟩
      else X ⟨d.val / 32 * 32 + 16 + d.val % 16, by omega⟩ * C ⟨d.val / 32, by omega⟩ ⟨d.val % 16, by omega⟩ + X ⟨d.val / 32 * 32 + d.val % 16, by omega⟩ * S ⟨d.val / 32, by omega⟩ ⟨d.val % 16, by omega⟩) = Inp.roped 64 16 w r Y d := by
  unfold Inp.roped
  simp only [hX, hC, hS, dite_eq_ite, Nat.reduceMul]
  split
  · rename_i hd
    have e1 : (⟨d.val / 32 * 32 + d.val % 16, by omega⟩ : Fin 64) = d := Fin.ext (by dsimp only; omega)
    have e2 : (⟨d.val / 32 * 32 + 16 + d.val % 16, by omega⟩ : Fin 64) = ⟨(d.val + 16) % 64, by omega⟩ := Fin.ext (by dsimp only; omega)
    rw [e1, e2]
  · rename_i hd
    have e1 : (⟨d.val / 32 * 32 + 16 + d.val % 16, by omega⟩ : Fin 64) = d := Fin.ext (by dsimp only; omega)
    have e2 : (⟨d.val / 32 * 32 + d.val % 16, by omega⟩ : Fin 64) = ⟨(d.val + 64 - 16) % 64, by omega⟩ := Fin.ext (by dsimp only; omega)
    rw [e1, e2]

theorem pairs32 (w : BitVec 32) (r : ℕ) (X Y : Fin 32 → EReal) (hX : ∀ d, X d = Y d) (C S : Fin 2 → Fin 8 → EReal)
    (hC : ∀ a f, C a f = Ideal.cos (Inp.angle w r a.val f.val)) (hS : ∀ a f, S a f = Ideal.sin (Inp.angle w r a.val f.val)) (d : Fin 32) :
    (if h : d.val / 8 % 2 < 1 then X ⟨d.val / 16 * 16 + d.val % 8, by omega⟩ * C ⟨d.val / 16, by omega⟩ ⟨d.val % 8, by omega⟩ - X ⟨d.val / 16 * 16 + 8 + d.val % 8, by omega⟩ * S ⟨d.val / 16, by omega⟩ ⟨d.val % 8, by omega⟩
      else X ⟨d.val / 16 * 16 + 8 + d.val % 8, by omega⟩ * C ⟨d.val / 16, by omega⟩ ⟨d.val % 8, by omega⟩ + X ⟨d.val / 16 * 16 + d.val % 8, by omega⟩ * S ⟨d.val / 16, by omega⟩ ⟨d.val % 8, by omega⟩) = Inp.roped 32 8 w r Y d := by
  unfold Inp.roped
  simp only [hX, hC, hS, dite_eq_ite, Nat.reduceMul]
  split
  · rename_i hd
    have e1 : (⟨d.val / 16 * 16 + d.val % 8, by omega⟩ : Fin 32) = d := Fin.ext (by dsimp only; omega)
    have e2 : (⟨d.val / 16 * 16 + 8 + d.val % 8, by omega⟩ : Fin 32) = ⟨(d.val + 8) % 32, by omega⟩ := Fin.ext (by dsimp only; omega)
    rw [e1, e2]
  · rename_i hd
    have e1 : (⟨d.val / 16 * 16 + 8 + d.val % 8, by omega⟩ : Fin 32) = d := Fin.ext (by dsimp only; omega)
    have e2 : (⟨d.val / 16 * 16 + d.val % 8, by omega⟩ : Fin 32) = ⟨(d.val + 32 - 8) % 32, by omega⟩ := Fin.ext (by dsimp only; omega)
    rw [e1, e2]

/-! The entries a head starts from. -/

theorem v95_apply (b : Fin 4) (r : Fin 8192) (e : Fin 2) (d : Fin 64) :
    val_main_v95 (F := Ideal) x0 x1 x2 x3 x4 (ix4 b r e d) = val_main_v23 (F := Ideal) x0 x1 x2 x3 x4 (ix3 b r ⟨512 + (e.val * 64 + d.val), by omega⟩) := by
  pointwise [val_main_v95, val_main_v26]

theorem v122_apply (b : Fin 4) (r : Fin 8192) (e : Fin 4) (d : Fin 64) :
    val_main_v122 (F := Ideal) x0 x1 x2 x3 x4 (ix4 b r e d) = val_main_v23 (F := Ideal) x0 x1 x2 x3 x4 (ix3 b r ⟨256 + (e.val * 64 + d.val), by omega⟩) := by
  pointwise [val_main_v122, val_main_v25]

theorem v35_apply (b : Fin 4) (r : Fin 8192) (d : Fin 32) :
    val_main_v35 (F := Ideal) x0 x1 x2 x3 x4 (ix3 b r d) = val_main_v23 (F := Ideal) x0 x1 x2 x3 x4 (ix3 b r ⟨2432 + d.val, by omega⟩) := by
  pointwise [val_main_v35]

theorem v59_apply (b : Fin 4) (r : Fin 8192) (n : Fin 512) :
    val_main_v59 (F := Ideal) x0 x1 x2 x3 x4 x7 x8 (ix3 b r n) = Inp.keyColumn (Inp.column x0 x1 x2 x3 x4 b r) x7 x8 n := by
  unfold Inp.keyColumn Inp.scaled
  simp only [← column_apply]
  pointwise [val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_cst_5, val_main_cst_6, val_main_cst_7, val_main_v34]

theorem v224_apply (b : Fin 4) (r : Fin 8192) (n : Fin 384) :
    val_main_v224 (F := Ideal) x0 x1 x2 x3 x4 x5 x6 (ix3 b r n) = Inp.queryColumn (Inp.column x0 x1 x2 x3 x4 b r) x5 x6 n := by
  unfold Inp.queryColumn Inp.scaled
  simp only [← column_apply]
  pointwise [val_main_v224, val_main_v223, val_main_v222, val_main_v221, val_main_v220, val_main_v219, val_main_v218, val_main_v217, val_main_v216, val_main_v215, val_main_v214, val_main_v213, val_main_v212, val_main_v211, val_main_v210, val_main_v209, val_main_v208, val_main_v207, val_main_cst_20, val_main_cst_21, val_main_cst_22, val_main_v33]

theorem v61_apply (b : Fin 4) (r : Fin 8192) (e : Fin 4) (d : Fin 64) :
    val_main_v61 (F := Ideal) x0 x1 x2 x3 x4 x7 x8 (ix4 b r e d) = val_main_v59 (F := Ideal) x0 x1 x2 x3 x4 x7 x8 (ix3 b r ⟨e.val * 128 + (64 + d.val), by omega⟩) := by
  pointwise [val_main_v61, val_main_v60]

theorem v200_apply (b : Fin 4) (r : Fin 8192) (e : Fin 4) (d : Fin 64) :
    val_main_v200 (F := Ideal) x0 x1 x2 x3 x4 x7 x8 (ix4 b r e d) = val_main_v59 (F := Ideal) x0 x1 x2 x3 x4 x7 x8 (ix3 b r ⟨e.val * 128 + d.val, by omega⟩) := by
  pointwise [val_main_v200, val_main_v60]

theorem v226_apply (b : Fin 4) (r : Fin 8192) (e : Fin 4) (d : Fin 64) :
    val_main_v226 (F := Ideal) x0 x1 x2 x3 x4 x5 x6 (ix4 b r e d) = val_main_v224 (F := Ideal) x0 x1 x2 x3 x4 x5 x6 (ix3 b r ⟨e.val * 96 + d.val, by omega⟩) := by
  pointwise [val_main_v226, val_main_v225]

theorem v227_apply (b : Fin 4) (r : Fin 8192) (e : Fin 4) (d : Fin 32) :
    val_main_v227 (F := Ideal) x0 x1 x2 x3 x4 x5 x6 (ix4 b r e d) = val_main_v224 (F := Ideal) x0 x1 x2 x3 x4 x5 x6 (ix3 b r ⟨e.val * 96 + (64 + d.val), by omega⟩) := by
  pointwise [val_main_v227, val_main_v225]

theorem v201_apply (b : Fin 4) (r : Fin 8192) (e : Fin 4) (d : Fin 96) :
    val_main_v201 (F := Ideal) x0 x1 x2 x3 x4 x7 x8 (ix4 b r e d) = if h : d.val < 64 then val_main_v200 (F := Ideal) x0 x1 x2 x3 x4 x7 x8 (ix4 b r e ⟨d.val, h⟩) else val_main_v198 (F := Ideal) x0 x1 x2 x3 x4 (ix4 b r 0 ⟨d.val - 64, by omega⟩) := by
  pointwise [val_main_v201, val_main_v199]

theorem v249_apply (b : Fin 4) (r : Fin 8192) (e : Fin 4) (d : Fin 96) :
    val_main_v249 (F := Ideal) x0 x1 x2 x3 x4 x5 x6 (ix4 b r e d) = if h : d.val < 64 then val_main_v226 (F := Ideal) x0 x1 x2 x3 x4 x5 x6 (ix4 b r e ⟨d.val, h⟩) else val_main_v248 (F := Ideal) x0 x1 x2 x3 x4 x5 x6 (ix4 b r e ⟨d.val - 64, by omega⟩) := by
  pointwise [val_main_v249]

theorem u_apply (b : Fin 4) (a : Fin 16) (t : Fin 512) (n : Fin 256) :
    val_main_v256 (F := Ideal) x0 x1 x2 x3 x4 (ix4 b a t n) = val_main_v23 (F := Ideal) x0 x1 x2 x3 x4 (ix3 b ⟨t.val * 16 + a.val, by omega⟩ ⟨n.val, by omega⟩) := by
  pointwise [val_main_v256, val_main_v255, val_main_v24]

end Cert.InpRef
-- ==== Proof.InpHeadsEq.lean ====
module

public import proofs.«01_k».proof.Proof.InpHeadsRef

@[expose] public section

set_option maxRecDepth 16384

/-!
  The heads of the input projection's reference, in the terms its kernel's are stated in.
-/

noncomputable section

namespace Cert.InpRef

open Cert.Reference3Ideal Cert.Reference3Ideal.Gen Cert.Reference3Ideal.Read Idealize.ShloMosaic

variable (x0 : FVec Ideal S4x8192x1024 .f32) (x1 x2 : FVec Ideal S4x1x1024 .f32) (x3 : FVec Ideal S4x1024 .f32) (x4 : FVec Ideal S4x1024x2464 .f32)

variable (x5 : FVec Ideal S4x256 .f32) (x6 : FVec Ideal S4x256x384 .f32) (x7 : FVec Ideal S4x128 .f32) (x8 : FVec Ideal S4x128x512 .f32)

theorem lane_value (x : Fin 64 → EReal) (l : Fin 128) :
    (if h : l.val < 64 then x ⟨l.val, h⟩ else if h : l.val - 64 < 1 then (1 : EReal) else 0) = Inp.valueLane x l := by
  unfold Inp.valueLane
  split
  · rfl
  · by_cases h : l.val = 64
    · rw [dif_pos (by omega), if_pos h]
    · rw [dif_neg (by omega), if_neg h]

theorem lane_windowed (r : ℕ) (x X : Fin 64 → EReal) (hx : ∀ d, x d = Inp.roped 64 16 1098907648#32 r X d) (l : Fin 128) :
    (if h : l.val < 64 then x ⟨l.val, h⟩ else if h : l.val - 64 < 1 then (0 : EReal) else 0) = Inp.windowedLane r X l := by
  unfold Inp.windowedLane
  split
  · exact hx _
  · exact dite_eq_ite.trans (ite_self _)

theorem lane_latent (r : ℕ) (x : Fin 96 → EReal) (X : Fin 64 → EReal) (Y : Fin 32 → EReal) (hX : ∀ (d : Fin 64), x ⟨d.val, by omega⟩ = X d)
    (hY : ∀ d : Fin 32, x ⟨64 + d.val, by omega⟩ = Inp.roped 32 8 1090519040#32 r Y d) (l : Fin 128) :
    (if h : l.val < 96 then x ⟨l.val, h⟩ else if h : l.val - 96 < 1 then (0 : EReal) else 0) = Inp.latentLane r X Y l := by
  unfold Inp.latentLane
  by_cases h : l.val < 64
  · rw [dif_pos h, dif_pos (by omega)]
    exact hX ⟨l.val, h⟩
  · by_cases h' : l.val < 96
    · rw [dif_neg h, dif_pos h', dif_pos (by omega)]
      exact (congrArg x (Fin.ext (by dsimp only; omega))).trans (hY ⟨l.val - 64, by omega⟩)
    · refine (dif_neg h').trans ((dite_eq_ite.trans (ite_self _)).trans ?_)
      rw [dif_neg h, dif_neg (show ¬ l.val - 64 < 32 by omega)]

theorem sv_apply (b : Fin 4) (r : Fin 8192) (e : Fin 2) (l : Fin 128) :
    (val_main_v41 (F := Ideal) x0 x1 x2 x3 x4 (ix3 b r ⟨128 * e.val + l.val, by omega⟩) : EReal) = Inp.valueLane (fun d => Inp.column x0 x1 x2 x3 x4 b r ⟨640 + (64 * e.val + d.val), by omega⟩) l := by
  refine (v41_apply x0 x1 x2 x3 x4 b r e l).trans ((v39_apply x0 x1 x2 x3 x4 b r e l).trans ((lane_value (fun d => val_main_v36 (F := Ideal) x0 x1 x2 x3 x4 (ix4 b r e d)) l).trans ?_))
  exact congrArg (fun x => Inp.valueLane x l) (funext fun d => (v36_apply x0 x1 x2 x3 x4 b r e d).trans ((column_apply x0 x1 x2 x3 x4 b r _).trans
    (congrArg _ (Fin.ext (by dsimp only; omega)))))

theorem mv_apply (b : Fin 4) (r : Fin 8192) (e : Fin 4) (l : Fin 128) :
    (val_main_v66 (F := Ideal) x0 x1 x2 x3 x4 x7 x8 (ix3 b r ⟨128 * e.val + l.val, by omega⟩) : EReal) = Inp.valueLane (fun d => Inp.keyColumn (Inp.column x0 x1 x2 x3 x4 b r) x7 x8 ⟨128 * e.val + (64 + d.val), by omega⟩) l := by
  refine (v66_apply x0 x1 x2 x3 x4 x7 x8 b r e l).trans ((v64_apply x0 x1 x2 x3 x4 x7 x8 b r e l).trans ((lane_value (fun d => val_main_v61 (F := Ideal) x0 x1 x2 x3 x4 x7 x8 (ix4 b r e d)) l).trans ?_))
  exact congrArg (fun x => Inp.valueLane x l) (funext fun d => (v61_apply x0 x1 x2 x3 x4 x7 x8 b r e d).trans ((v59_apply x0 x1 x2 x3 x4 x7 x8 b r _).trans
    (congrArg _ (Fin.ext (by dsimp only; omega)))))

theorem sk_apply (b : Fin 4) (r : Fin 8192) (e : Fin 2) (l : Fin 128) :
    (val_main_v121 (F := Ideal) x0 x1 x2 x3 x4 (ix3 b r ⟨128 * e.val + l.val, by omega⟩) : EReal) = Inp.windowedLane r.val (fun d => Inp.column x0 x1 x2 x3 x4 b r ⟨512 + (64 * e.val + d.val), by omega⟩) l := by
  refine (v121_apply x0 x1 x2 x3 x4 b r e l).trans ((v119_apply x0 x1 x2 x3 x4 b r e l).trans (lane_windowed r.val (fun d => val_main_v116 (F := Ideal) x0 x1 x2 x3 x4 (ix4 b r e d)) _ (fun d => ?_) l))
  refine (v116_apply x0 x1 x2 x3 x4 b r e d).trans (pairs64 _ r.val (fun d => val_main_v95 (F := Ideal) x0 x1 x2 x3 x4 (ix4 b r e d)) _ (fun d => ?_) (fun a f => val_main_v93 (F := Ideal) (ix3 r a f))
    (fun a f => val_main_v94 (F := Ideal) (ix3 r a f)) (v93_apply r) (v94_apply r) d)
  exact (v95_apply x0 x1 x2 x3 x4 b r e d).trans ((column_apply x0 x1 x2 x3 x4 b r _).trans (congrArg _ (Fin.ext (by dsimp only; omega))))

theorem sq_apply (b : Fin 4) (r : Fin 8192) (e : Fin 4) (l : Fin 128) :
    (val_main_v148 (F := Ideal) x0 x1 x2 x3 x4 (ix3 b r ⟨128 * e.val + l.val, by omega⟩) : EReal) = Inp.windowedLane r.val (fun d => Inp.column x0 x1 x2 x3 x4 b r ⟨256 + (64 * e.val + d.val), by omega⟩) l := by
  refine (v148_apply x0 x1 x2 x3 x4 b r e l).trans ((v146_apply x0 x1 x2 x3 x4 b r e l).trans (lane_windowed r.val (fun d => val_main_v143 (F := Ideal) x0 x1 x2 x3 x4 (ix4 b r e d)) _ (fun d => ?_) l))
  refine (v143_apply x0 x1 x2 x3 x4 b r e d).trans (pairs64 _ r.val (fun d => val_main_v122 (F := Ideal) x0 x1 x2 x3 x4 (ix4 b r e d)) _ (fun d => ?_) (fun a f => val_main_v93 (F := Ideal) (ix3 r a f))
    (fun a f => val_main_v94 (F := Ideal) (ix3 r a f)) (v93_apply r) (v94_apply r) d)
  exact (v122_apply x0 x1 x2 x3 x4 b r e d).trans ((column_apply x0 x1 x2 x3 x4 b r _).trans (congrArg _ (Fin.ext (by dsimp only; omega))))

theorem mk_apply (b : Fin 4) (r : Fin 8192) (e : Fin 4) (l : Fin 128) :
    (val_main_v206 (F := Ideal) x0 x1 x2 x3 x4 x7 x8 (ix3 b r ⟨128 * e.val + l.val, by omega⟩) : EReal) = Inp.latentLane r.val (fun d => Inp.keyColumn (Inp.column x0 x1 x2 x3 x4 b r) x7 x8 ⟨128 * e.val + d.val, by omega⟩)
      (fun d => Inp.column x0 x1 x2 x3 x4 b r ⟨2432 + d.val, by omega⟩) l := by
  refine (v206_apply x0 x1 x2 x3 x4 x7 x8 b r e l).trans ((v204_apply x0 x1 x2 x3 x4 x7 x8 b r e l).trans
    (lane_latent r.val (fun d => val_main_v201 (F := Ideal) x0 x1 x2 x3 x4 x7 x8 (ix4 b r e d)) _ _ (fun d => ?_) (fun d => ?_) l))
  · refine (v201_apply x0 x1 x2 x3 x4 x7 x8 b r e _).trans ((dif_pos d.isLt).trans ?_)
    exact (v200_apply x0 x1 x2 x3 x4 x7 x8 b r e d).trans ((v59_apply x0 x1 x2 x3 x4 x7 x8 b r _).trans (congrArg _ (Fin.ext (by dsimp only; omega))))
  · refine (v201_apply x0 x1 x2 x3 x4 x7 x8 b r e _).trans ((dif_neg (by dsimp only; omega)).trans ?_)
    refine (congrArg (fun d => val_main_v198 (F := Ideal) x0 x1 x2 x3 x4 (ix4 b r 0 d)) (Fin.ext (by dsimp only; omega) : _ = d)).trans ?_
    exact (v198_apply x0 x1 x2 x3 x4 b r d).trans (pairs32 _ r.val (fun d => val_main_v35 (F := Ideal) x0 x1 x2 x3 x4 (ix3 b r d)) _
      (fun d => (v35_apply x0 x1 x2 x3 x4 b r d).trans (column_apply x0 x1 x2 x3 x4 b r _)) (fun a f => val_main_v175 (F := Ideal) (ix3 r a f))
      (fun a f => val_main_v176 (F := Ideal) (ix3 r a f)) (v175_apply r) (v176_apply r) d)

theorem mq_apply (b : Fin 4) (r : Fin 8192) (e : Fin 4) (l : Fin 128) :
    (val_main_v254 (F := Ideal) x0 x1 x2 x3 x4 x5 x6 (ix3 b r ⟨128 * e.val + l.val, by omega⟩) : EReal) = Inp.latentLane r.val (fun d => Inp.queryColumn (Inp.column x0 x1 x2 x3 x4 b r) x5 x6 ⟨96 * e.val + d.val, by omega⟩)
      (fun d => Inp.queryColumn (Inp.column x0 x1 x2 x3 x4 b r) x5 x6 ⟨96 * e.val + (64 + d.val), by omega⟩) l := by
  refine (v254_apply x0 x1 x2 x3 x4 x5 x6 b r e l).trans ((v252_apply x0 x1 x2 x3 x4 x5 x6 b r e l).trans
    (lane_latent r.val (fun d => val_main_v249 (F := Ideal) x0 x1 x2 x3 x4 x5 x6 (ix4 b r e d)) _ _ (fun d => ?_) (fun d => ?_) l))
  · refine (v249_apply x0 x1 x2 x3 x4 x5 x6 b r e _).trans ((dif_pos d.isLt).trans ?_)
    exact (v226_apply x0 x1 x2 x3 x4 x5 x6 b r e d).trans ((v224_apply x0 x1 x2 x3 x4 x5 x6 b r _).trans (congrArg _ (Fin.ext (by dsimp only; omega))))
  · refine (v249_apply x0 x1 x2 x3 x4 x5 x6 b r e _).trans ((dif_neg (by dsimp only; omega)).trans ?_)
    refine (congrArg (fun d => val_main_v248 (F := Ideal) x0 x1 x2 x3 x4 x5 x6 (ix4 b r e d)) (Fin.ext (by dsimp only; omega) : _ = d)).trans ?_
    exact (v248_apply x0 x1 x2 x3 x4 x5 x6 b r e d).trans (pairs32 _ r.val (fun d => val_main_v227 (F := Ideal) x0 x1 x2 x3 x4 x5 x6 (ix4 b r e d)) _
      (fun d => (v227_apply x0 x1 x2 x3 x4 x5 x6 b r e d).trans ((v224_apply x0 x1 x2 x3 x4 x5 x6 b r _).trans (congrArg _ (Fin.ext (by dsimp only; omega)))))
      (fun a f => val_main_v175 (F := Ideal) (ix3 r a f)) (fun a f => val_main_v176 (F := Ideal) (ix3 r a f)) (v175_apply r) (v176_apply r) d)

end Cert.InpRef

end
-- ==== Proof.InpTiles.lean ====
module

public import proofs.«01_k».proof.Proof.InpHeads

@[expose] public section

set_option maxRecDepth 16384

/-!
  What the input projection's first result array holds: the block's columns, written to a buffer and read back with a
  stride of 16 rows.
-/

noncomputable section

namespace Cert.Inp

open Cert.Kernel3Ideal Cert.Kernel3Ideal.Gen Cert.Kernel3Ideal.Value Idealize.ShloMosaic Idealize.ShloMosaic.TcCoe Idealize.SL.Sem

section
variable (H : FVec Ideal S1024x1024 .bf16) (w : Vec Ideal S1x1024x256 .bf16)

theorem pay13_apply (z : Fin 1) (r : Fin 1024) (l : Fin 128) : k0_pay13 H w (ix3 z r l) = k0_pay63 H w (ix2 r ⟨l.val, by omega⟩) := by
  pointwise [k0_pay13, k0_pay12, k0_pay63]

theorem pay15_apply (z : Fin 1) (r : Fin 1024) (l : Fin 128) : k0_pay15 (k0_pay14 H w) (ix3 z r l) = k0_pay63 H w (ix2 r ⟨128 + l.val, by omega⟩) := by
  pointwise [k0_pay15, k0_pay14, k0_pay12, k0_pay63]

theorem pay16_apply (A : Vec Ideal S1x64x128 .f32) (a b : Fin 1) (s : Fin 64) (l : Fin 128) : k0_pay16 A (ix4 a b s l) = A (ix3 0 s l) := by
  pointwise [k0_pay16]

/-- The buffer, both halves written. -/
theorem buffer_apply (p0 p1) (v r l : ℕ) (hv : v < 2) (hr : r < 1024) (hl : l < 128) :
    View.canon (Val := Elt Ideal) (e := .f32) [⟨Rect.unit (s := S2x1024x128) ![1, 0, 0] ![1, 1024, 128] p1, k0_pay15 (k0_pay14 H w)⟩,
        ⟨Rect.unit (s := S2x1024x128) ![0, 0, 0] ![1, 1024, 128] p0, k0_pay13 H w⟩] (ix3 ⟨v, hv⟩ ⟨r, hr⟩ ⟨l, hl⟩)
      = k0_pay63 H w (ix2 ⟨r, hr⟩ ⟨128 * v + l, by omega⟩) := by
  let G : S2x1024x128.Idx → Elt Ideal .f32 := fun y =>
    k0_pay63 H w (ix2 (y 1) ⟨128 * (y 0).val + (y 2).val, by have h0 : (y 0).val < 2 := (y 0).isLt; have h2 : (y 2).val < 128 := (y 2).isLt; omega⟩)
  refine View.canon_apply_of_pieces G _ (fun p hp j => ?_) _ ?_
  · simp only [List.mem_cons, List.mem_nil_iff, or_false] at hp
    rcases hp with rfl | rfl <;>
      obtain ⟨z, r, l, rfl⟩ : ∃ (z : Fin 1) (r : Fin 1024) (l : Fin 128), j = ix3 z r l := ⟨j 0, j 1, j 2, eq_ix3 j⟩ <;>
      obtain rfl : z = 0 := Subsingleton.elim _ _
    · refine (pay15_apply H w 0 r l).trans ?_
      have hi : (Rect.unit (s := S2x1024x128) ![1, 0, 0] ![1, 1024, 128] p1).emb (ix3 0 r l) = ix3 1 r l := by blk_ext
      exact ((congrArg G hi).trans (congrArg (fun n => k0_pay63 H w (ix2 r n)) (Fin.ext (by simp [ix3])))).symm
    · refine (pay13_apply H w 0 r l).trans ?_
      have hi : (Rect.unit (s := S2x1024x128) ![0, 0, 0] ![1, 1024, 128] p0).emb (ix3 0 r l) = ix3 0 r l := by blk_ext
      exact ((congrArg G hi).trans (congrArg (fun n => k0_pay63 H w (ix2 r n)) (Fin.ext (by simp [ix3])))).symm
  · simp only [List.exists_mem_cons_iff, Rect.mem_set_unit, List.not_mem_nil, false_and, exists_false, or_false]
    by_cases h : v = 0
    · right
      intro a
      fin_cases a <;> simp [ix3] <;> omega
    · left
      intro a
      fin_cases a <;> simp [ix3] <;> omega

/-- One tile read back with the stride. -/
theorem tile_apply (p0 p1) (V : View sig Kind.tc .vmem S2x1024x128 .f32) (G : S1x16x64x256.Idx → Elt Ideal .f32)
    (hG : ∀ (j : Fin 16) (s : Fin 64) (n : Fin 256), G (ix4 0 j s n) = k0_pay63 H w (ix2 ⟨16 * s.val + j.val, by omega⟩ n))
    {v j n : ℕ} (hv : v < 2) (hj : j < 16) (hn : n = 128 * v) (q inb) (x : S1x1x64x128.Idx) :
    (k0_pay16 (V.readCov (Val := Elt Ideal) [⟨Rect.unit (s := S2x1024x128) ![1, 0, 0] ![1, 1024, 128] p1, k0_pay15 (k0_pay14 H w)⟩,
        ⟨Rect.unit (s := S2x1024x128) ![0, 0, 0] ![1, 1024, 128] p0, k0_pay13 H w⟩]
        { off := ![v, j, 0], size := ![1, 64, 128], stride := ![1, 16, 1], inb := inb }) x : EReal)
      = G ((Rect.unit (s := S1x16x64x256) ![0, j, 0, n] ![1, 1, 64, 128] q).emb x) := by
  obtain ⟨a, b, s, l, rfl⟩ : ∃ (a b : Fin 1) (s : Fin 64) (l : Fin 128), x = ix4 a b s l := ⟨x 0, x 1, x 2, x 3, eq_ix4 x⟩
  obtain rfl : a = 0 := Subsingleton.elim _ _
  obtain rfl : b = 0 := Subsingleton.elim _ _
  subst hn
  have hi : (Rect.unit (s := S1x16x64x256) ![0, j, 0, 128 * v] ![1, 1, 64, 128] q).emb (ix4 0 0 s l) = ix4 0 ⟨j, hj⟩ s ⟨128 * v + l.val, by omega⟩ := by blk_ext
  refine Eq.trans ?_ ((congrArg G hi).trans (hG _ _ _)).symm
  refine (pay16_apply _ 0 0 s l).trans ?_
  rw [View.readCov_eq_canon']
  refine Eq.trans ?_ (buffer_apply H w p0 p1 v (16 * s.val + j) l.val hv (by omega) l.isLt)
  refine congrArg _ (funext fun a => ?_)
  fin_cases a <;> exact Fin.ext (by simp [ix3, LoadRect.idx] <;> omega)

end

theorem cons_tile (T : S1x16x64x256.Idx → Elt Ideal .f32) {R : Rect S1x16x64x256} {P : R.shape.Idx → Elt Ideal .f32}
    {L : List (View.Piece (Elt Ideal) S1x16x64x256 .f32)} (h : P = fun x => T (R.emb x)) (hL : ∀ p ∈ L, ∀ x, p.2 x = T (p.1.emb x)) :
    ∀ p ∈ (⟨R, P⟩ : View.Piece (Elt Ideal) S1x16x64x256 .f32) :: L, ∀ x, p.2 x = T (p.1.emb x) :=
  List.forall_mem_cons.2 ⟨congrFun h, hL⟩

theorem mem_tile (j n : ℕ) (q) (y : S1x16x64x256.Idx) :
    y ∈ (Rect.unit (s := S1x16x64x256) ![0, j, 0, n] ![1, 1, 64, 128] q).set ↔ (y 1).val = j ∧ n ≤ (y 3).val ∧ (y 3).val < n + 128 := by
  rw [Rect.mem_set_unit]
  have h0 : (y 0).val < 1 := (y 0).isLt
  have h2 : (y 2).val < 64 := (y 2).isLt
  constructor
  · intro h
    have h1 := h 1
    have h3 := h 3
    simp at h1 h3
    omega
  · intro h a
    fin_cases a <;> simp <;> omega

/-- Every row and column lies in one of the 32 tiles. -/
theorem some_tile (j n : ℕ) (hj : j < 16) (hn : n < 256) : (j = 15 ∧ 128 ≤ n ∧ n < 128 + 128) ∨ (j = 15 ∧ 0 ≤ n ∧ n < 0 + 128) ∨ (j = 14 ∧ 128 ≤ n ∧ n < 128 + 128) ∨ (j = 14 ∧ 0 ≤ n ∧ n < 0 + 128) ∨ (j = 13 ∧ 128 ≤ n ∧ n < 128 + 128) ∨ (j = 13 ∧ 0 ≤ n ∧ n < 0 + 128) ∨ (j = 12 ∧ 128 ≤ n ∧ n < 128 + 128) ∨ (j = 12 ∧ 0 ≤ n ∧ n < 0 + 128) ∨ (j = 11 ∧ 128 ≤ n ∧ n < 128 + 128) ∨ (j = 11 ∧ 0 ≤ n ∧ n < 0 + 128) ∨ (j = 10 ∧ 128 ≤ n ∧ n < 128 + 128) ∨ (j = 10 ∧ 0 ≤ n ∧ n < 0 + 128) ∨ (j = 9 ∧ 128 ≤ n ∧ n < 128 + 128) ∨ (j = 9 ∧ 0 ≤ n ∧ n < 0 + 128) ∨ (j = 8 ∧ 128 ≤ n ∧ n < 128 + 128) ∨ (j = 8 ∧ 0 ≤ n ∧ n < 0 + 128) ∨ (j = 7 ∧ 128 ≤ n ∧ n < 128 + 128) ∨ (j = 7 ∧ 0 ≤ n ∧ n < 0 + 128) ∨ (j = 6 ∧ 128 ≤ n ∧ n < 128 + 128) ∨ (j = 6 ∧ 0 ≤ n ∧ n < 0 + 128) ∨ (j = 5 ∧ 128 ≤ n ∧ n < 128 + 128) ∨ (j = 5 ∧ 0 ≤ n ∧ n < 0 + 128) ∨ (j = 4 ∧ 128 ≤ n ∧ n < 128 + 128) ∨ (j = 4 ∧ 0 ≤ n ∧ n < 0 + 128) ∨ (j = 3 ∧ 128 ≤ n ∧ n < 128 + 128) ∨ (j = 3 ∧ 0 ≤ n ∧ n < 0 + 128) ∨ (j = 2 ∧ 128 ≤ n ∧ n < 128 + 128) ∨ (j = 2 ∧ 0 ≤ n ∧ n < 0 + 128) ∨ (j = 1 ∧ 128 ≤ n ∧ n < 128 + 128) ∨ (j = 1 ∧ 0 ≤ n ∧ n < 0 + 128) ∨ (j = 0 ∧ 128 ≤ n ∧ n < 128 + 128) ∨ (j = 0 ∧ 0 ≤ n ∧ n < 0 + 128) := by
  interval_cases j <;> simp <;> omega

variable (m : (ℓ : Loc nD τ sig) → Buf (Elt Ideal) ℓ)

theorem index11 : ∀ t : Fin cfg0.N, win0_11.index t = ![(grid0.coords t 1).val, 0, (grid0.coords t 0).val, 0] := (by decide +kernel : ∀ t : Fin grid0.N, _)

theorem place11 (t : Fin cfg0.N) (j : Fin 16) (s : Fin 64) (n : Fin 256) :
    ((View.whole main_v144_0).slice (win0_11.rect t)).emb (ix4 0 j s n)
      = ix4 (batch t) j ⟨(grid0.coords t 0).val * 64 + s.val, by have := (grid0.coords t 0).isLt; simp at this; omega⟩ n := by
  blk_ext [index11, batch]

theorem tile_of (c : Dev nD) (t : Fin cfg0.N) (G : FVec Ideal S4x16x512x256 .f32)
    (hG : ∀ (b : Fin 4) (j : Fin 16) (s : Fin 512) (n : Fin 256), G (ix4 b j s n) = col m c b ⟨s.val * 16 + j.val, by omega⟩ ⟨n.val, by omega⟩)
    (j : Fin 16) (s : Fin 64) (n : Fin 256) :
    (G (((View.whole main_v144_0).slice (win0_11.rect t)).emb (ix4 0 j s n)) : EReal)
      = k0_pay63 (rows m c t) (View.ld (iblk m c 4 t) (Rect.unit ![0, 0, 0] ![1, 1024, 256] inb_S1x1024x2560_S1x1024x256_0_0_0))
          (ix2 ⟨16 * s.val + j.val, by omega⟩ n) := by
  refine (congrArg G (place11 t j s n)).trans ((hG _ _ _ _).trans ?_)
  refine Eq.trans ?_ (column_block m c t _ n 0 _ (by omega)).symm
  refine congrArg₂ (fun r n => col m c (batch t) r n) (Fin.ext ?_) (Fin.ext ?_)
  · unfold token
    dsimp only
    omega
  · dsimp only
    omega

theorem array11_eq (c : Dev nD) (G : FVec Ideal S4x16x512x256 .f32)
    (hG : ∀ (b : Fin 4) (j : Fin 16) (s : Fin 512) (n : Fin 256), G (ix4 b j s n) = col m c b ⟨s.val * 16 + j.val, by omega⟩ ⟨n.val, by omega⟩) :
    (dats m 0 c).arrAt 11 cfg0.N = G := by
  refine (dats m 0 c).arrAt_eq_of_covers 11 G (by decide +kernel) fun t hf y => ?_
  obtain ⟨T, hT⟩ : ∃ T : S1x16x64x256.Idx → Elt Ideal .f32, ∀ y, T y = G (((View.whole main_v144_0).slice (win0_11.rect t)).emb y) := ⟨_, fun _ => rfl⟩
  have tile {v j n : ℕ} (hv : v < 2) (hj : j < 16) (hn : n = 128 * v) (q inb) := funext fun x : S1x1x64x128.Idx =>
    tile_apply (rows m c t) (View.ld (iblk m c 4 t) (Rect.unit ![0, 0, 0] ![1, 1024, 256] inb_S1x1024x2560_S1x1024x256_0_0_0))
      inb_S2x1024x128_S1x1024x128_0_0_0 inb_S2x1024x128_S1x1024x128_1_0_0 (View.whole cc0_scratch0) T (fun j s n => (hT _).trans (tile_of m c t G hG j s n)) hv hj hn q inb x
  refine Eq.trans ?_ (hT y)
  blk_simp
  rw [after0_11]
  unfold outsAt0
  frame_open
  frame_out
  clear hT hG
  unfold rows at tile
  generalize k0_pay4 (iblk m c 0 t) (iblk m c 3 t) (iblk m c 1 t) (iblk m c 2 t) = H at tile ⊢
  generalize View.ld (iblk m c 4 t) (Rect.unit ![0, 0, 0] ![1, 1024, 256] inb_S1x1024x2560_S1x1024x256_0_0_0) = w at tile ⊢
  refine View.canon_apply_of_pieces (Val := Elt Ideal) (e := .f32) T _ ?_ y ?_
  · iterate 16
      refine cons_tile T (tile (v := 1) (by decide) (by decide) rfl _ _) (cons_tile T (tile (v := 0) (by decide) (by decide) rfl _ _) ?_)
    exact List.forall_mem_nil _
  · simp only [List.exists_mem_cons_iff, mem_tile, List.not_mem_nil, false_and, exists_false, or_false]
    have h1 : (y 1).val < 16 := (y 1).isLt
    have h3 : (y 3).val < 256 := (y 3).isLt
    exact some_tile _ _ h1 h3

end Cert.Inp

end
-- ==== Proof.InpClaims.lean ====
module

public import proofs.«01_k».proof.Defs
public import proofs.«01_k».proof.Proof.Gen.Kernel3.Frame
public import proofs.«01_k».proof.Proof.InpHeads3
public import proofs.«01_k».proof.Proof.InpHeadsEq
public import proofs.«01_k».proof.Proof.InpTiles
public import proofs.«01_k».proof.Proof.Gen.Reference3Ideal.Run
public import Idealize.ShloMosaic.Adequacy

@[expose] public section

/-!
  The input projection's claims.
-/

noncomputable section

namespace Cert.InpClaims

open Idealize.ShloMosaic Idealize.SL.Sem

theorem frame_p : Cert.quiescent_Kernel3 := fun m ρ _ => Cert.Kernel3.Gen.frame m ρ
theorem frame_pi : Cert.quiescent_Kernel3Ideal := fun m ρ _ => Cert.Kernel3Ideal.Gen.frame m ρ

/-- The reference runs, leaves its arguments alone and has no semaphore to leave behind. -/
theorem frame_ri : Cert.quiescent_Reference3Ideal := fun m ρ _ =>
  (θ_run Cert.Reference3Ideal.defs _ _).mono (fun r h => ⟨fun c => (h c).2.2.2.2.2.2.2.2.2.2.2.2, sem_eq_zero_of_no_sems (by decide) r.2⟩)
    (Cert.Reference3Ideal.Value.run (F := Ideal) m ρ)

set_option maxHeartbeats 2000000 in
open Cert.Kernel3Ideal in
/-- The kernel's result arrays and the reference's results are equal. -/
theorem algebraic : Cert.algebraic_Kernel3Ideal_Reference3Ideal := by
  intro m ρ m' ρ' hpre hagree
  refine ⟨fun c => (Gen.dats m 0 c).arrAt 15 cfg0.N, fun c => (Gen.dats m 0 c).arrAt 16 cfg0.N, fun c => (Gen.dats m 0 c).arrAt 17 cfg0.N,
    fun c => (Gen.dats m 0 c).arrAt 18 cfg0.N, fun c => (Gen.dats m 0 c).arrAt 19 cfg0.N, fun c => (Gen.dats m 0 c).arrAt 14 cfg0.N,
    fun c => (Gen.dats m 0 c).arrAt 22 cfg0.N, fun c => (Gen.dats m 0 c).arrAt 13 cfg0.N, fun c => (Gen.dats m 0 c).arrAt 12 cfg0.N,
    fun c => (Gen.dats m 0 c).arrAt 21 cfg0.N, fun c => (Gen.dats m 0 c).arrAt 20 cfg0.N, fun c => (Gen.dats m 0 c).arrAt 11 cfg0.N,
    (θ_run Cert.Kernel3Ideal.defs _ _).mono (fun _ h c => have k := h c
      ⟨k.2.2.2.2.1, k.2.2.2.2.2.1, k.2.2.2.2.2.2.1, k.2.2.2.2.2.2.2.1, k.2.2.2.2.2.2.2.2.1, k.2.2.2.1, k.2.2.2.2.2.2.2.2.2.2.2.1, k.2.2.1, k.2.1, k.2.2.2.2.2.2.2.2.2.2.1, k.2.2.2.2.2.2.2.2.2.1, k.1, k.2.2.2.2.2.2.2.2.2.2.2.2⟩) (Cert.Kernel3Ideal.Value.run_blocks (F := Ideal) m ρ), ?_⟩
  refine (θ_run Cert.Reference3Ideal.defs _ _).mono (fun _ h c => ?_) (Cert.Reference3Ideal.Value.run (F := Ideal) m' ρ')
  have k := h c
  have h0 := (k.1).trans (Cert.Reference3Ideal.Read.val_main_v28_eq _)
  have h1 := (k.2.1).trans (Cert.Reference3Ideal.Read.val_main_v29_eq _)
  have h2 := (k.2.2.1).trans (Cert.Reference3Ideal.Read.val_main_v30_eq _)
  have h3 := (k.2.2.2.1).trans (Cert.Reference3Ideal.Read.val_main_v31_eq _)
  have h4 := (k.2.2.2.2.1).trans (Cert.Reference3Ideal.Read.val_main_v257_eq _)
  have h5 := (k.2.2.2.2.2.1).trans (Cert.Reference3Ideal.Read.val_main_v41_eq _)
  have h6 := (k.2.2.2.2.2.2.1).trans (Cert.Reference3Ideal.Read.val_main_v66_eq _)
  have h7 := (k.2.2.2.2.2.2.2.1).trans (Cert.Reference3Ideal.Read.val_main_v121_eq _)
  have h8 := (k.2.2.2.2.2.2.2.2.1).trans (Cert.Reference3Ideal.Read.val_main_v148_eq _)
  have h9 := (k.2.2.2.2.2.2.2.2.2.1).trans (Cert.Reference3Ideal.Read.val_main_v206_eq _)
  have h10 := (k.2.2.2.2.2.2.2.2.2.2.1).trans (Cert.Reference3Ideal.Read.val_main_v254_eq _)
  have h11 := (k.2.2.2.2.2.2.2.2.2.2.2.1).trans (Cert.Reference3Ideal.Read.val_main_v256_eq _)
  have a := hagree c
  have a0 : Idealize.ShloMosaic.StableHlo.launchContents m' c (Proc.devRef .tc Cert.Reference3Ideal.main_arg0) = m ((c.tc : Thread nD τ).loc main_arg0) := a.1
  have a1 : Idealize.ShloMosaic.StableHlo.launchContents m' c (Proc.devRef .tc Cert.Reference3Ideal.main_arg1) = m ((c.tc : Thread nD τ).loc main_arg1) := a.2.1
  have a2 : Idealize.ShloMosaic.StableHlo.launchContents m' c (Proc.devRef .tc Cert.Reference3Ideal.main_arg2) = m ((c.tc : Thread nD τ).loc main_arg2) := a.2.2.1
  have a3 : Idealize.ShloMosaic.StableHlo.launchContents m' c (Proc.devRef .tc Cert.Reference3Ideal.main_arg3) = m ((c.tc : Thread nD τ).loc main_arg3) := a.2.2.2.1
  have a4 : Idealize.ShloMosaic.StableHlo.launchContents m' c (Proc.devRef .tc Cert.Reference3Ideal.main_arg4) = m ((c.tc : Thread nD τ).loc main_arg4) := a.2.2.2.2.1
  have a5 : Idealize.ShloMosaic.StableHlo.launchContents m' c (Proc.devRef .tc Cert.Reference3Ideal.main_arg5) = m ((c.tc : Thread nD τ).loc main_arg5) := a.2.2.2.2.2.1
  have a6 : Idealize.ShloMosaic.StableHlo.launchContents m' c (Proc.devRef .tc Cert.Reference3Ideal.main_arg6) = m ((c.tc : Thread nD τ).loc main_arg6) := a.2.2.2.2.2.2.1
  have a7 : Idealize.ShloMosaic.StableHlo.launchContents m' c (Proc.devRef .tc Cert.Reference3Ideal.main_arg7) = m ((c.tc : Thread nD τ).loc main_arg7) := a.2.2.2.2.2.2.2.1
  have a8 : Idealize.ShloMosaic.StableHlo.launchContents m' c (Proc.devRef .tc Cert.Reference3Ideal.main_arg8) = m ((c.tc : Thread nD τ).loc main_arg8) := a.2.2.2.2.2.2.2.2
  rw [a0, a1, a2, a3, a4] at h0 h1 h2 h3 h4 h5 h7 h8 h11
  rw [a0, a1, a2, a3, a4, a7, a8] at h6 h9
  rw [a0, a1, a2, a3, a4, a5, a6] at h10
  exact ⟨h0.trans (Cert.Inp.array15_eq m c _ fun b r o => Cert.InpRef.hq_apply _ _ _ _ _ b r o).symm,
    h1.trans (Cert.Inp.array16_eq m c _ fun b r o => Cert.InpRef.hzf_apply _ _ _ _ _ b r o).symm,
    h2.trans (Cert.Inp.array17_eq m c _ fun b r o => Cert.InpRef.hzb_apply _ _ _ _ _ b r o).symm,
    h3.trans (Cert.Inp.array18_eq m c _ fun b r o => Cert.InpRef.hi_apply _ _ _ _ _ b r o).symm,
    h4.trans (Cert.Inp.array19_eq m c _ fun b r o => Cert.InpRef.hg_apply _ _ _ _ _ b r o).symm,
    h5.trans (Cert.Inp.array14_eq m c _ fun b r e l => Cert.InpRef.sv_apply _ _ _ _ _ b r e l).symm,
    h6.trans (Cert.Inp.array22_eq m c _ fun b r e l => Cert.InpRef.mv_apply _ _ _ _ _ _ _ b r e l).symm,
    h7.trans (Cert.Inp.array13_eq m c _ fun b r e l => Cert.InpRef.sk_apply _ _ _ _ _ b r e l).symm,
    h8.trans (Cert.Inp.array12_eq m c _ fun b r e l => Cert.InpRef.sq_apply _ _ _ _ _ b r e l).symm,
    h9.trans (Cert.Inp.array21_eq m c _ fun b r e l => Cert.InpRef.mk_apply _ _ _ _ _ _ _ b r e l).symm,
    h10.trans (Cert.Inp.array20_eq m c _ fun b r e l => Cert.InpRef.mq_apply _ _ _ _ _ _ _ b r e l).symm,
    h11.trans (Cert.Inp.array11_eq m c _ fun b j s n => (Cert.InpRef.u_apply _ _ _ _ _ b j s n).trans (Cert.InpRef.column_apply _ _ _ _ _ b _ _)).symm, k.2.2.2.2.2.2.2.2.2.2.2.2⟩

end Cert.InpClaims

end
-- ==== Proof.lean ====
/- The claims, assembled from the modules under Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Pre_finite_ones_lane
public import proofs.«01_k».proof.Proof.Gen.KernelIdeal.Value
public import proofs.«01_k».proof.Proof.Gen.Kernel2Ideal.Value
public import proofs.«01_k».proof.Proof.Gen.ReferenceIdeal.Run
public import proofs.«01_k».proof.Proof.Gen.Reference2Ideal.Run
public import proofs.«01_k».proof.Proof.Gen.ReferenceIdeal.Read
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.MlaClaims
public import proofs.«01_k».proof.Proof.FfnClaims
public import proofs.«01_k».proof.Proof.InpClaims
public import Idealize.ShloMosaic.Adequacy
public import Idealize.ShloMosaic.Init

@[expose] public section

noncomputable section

namespace Cert.Proof

open Idealize.ShloMosaic Idealize.SL.Sem Cert.Kernel

/-- All the claims. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Pre_finite_ones_lane.Gen.facts,
  Cert.MlaClaims.frame_p, Cert.MlaClaims.frame_pi, Cert.MlaClaims.frame_pi_pre, Cert.MlaClaims.frame_ri, Cert.MlaClaims.frame_ri_pre,
  Cert.FfnClaims.frame_p, Cert.FfnClaims.frame_pi, Cert.FfnClaims.frame_ri, Cert.InpClaims.frame_p, Cert.InpClaims.frame_pi, Cert.InpClaims.frame_ri,
  Cert.MlaClaims.preserves, Cert.MlaClaims.algebraic, trivial, Cert.FfnClaims.algebraic, trivial, Cert.InpClaims.algebraic⟩

end Cert.Proof

end
